-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range_KernelIdeal [hPre_scale_in_range_KernelIdeal : Cert.Pre_scale_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range_ReferenceIdeal [hPre_scale_in_range_ReferenceIdeal : Cert.Pre_scale_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_in_range_KernelIdeal [hKernelIdeal : Cert.KernelIdeal.Facts] [hPre_scale_in_range_KernelIdeal : Cert.Pre_scale_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_in_range_ReferenceIdeal [hReferenceIdeal : Cert.ReferenceIdeal.Facts] [hPre_scale_in_range_ReferenceIdeal : Cert.Pre_scale_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_in_range_KernelIdeal [hKernelIdeal : Cert.KernelIdeal.Facts] [hReferenceIdeal : Cert.ReferenceIdeal.Facts] [hPre_scale_in_range_KernelIdeal : Cert.Pre_scale_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_in_range_KernelIdeal : Cert.Pre_scale_in_range_KernelIdeal.Facts) (hPre_scale_in_range_ReferenceIdeal : Cert.Pre_scale_in_range_ReferenceIdeal.Facts),
    quiescent_Kernel (hKernel := hKernel)
    ∧ quiescent_KernelIdeal (hKernelIdeal := hKernelIdeal)
    ∧ quiescent_KernelIdeal_pre_scale_in_range_KernelIdeal (hKernelIdeal := hKernelIdeal) (hPre_scale_in_range_KernelIdeal := hPre_scale_in_range_KernelIdeal)
    ∧ quiescent_ReferenceIdeal (hReferenceIdeal := hReferenceIdeal)
    ∧ quiescent_ReferenceIdeal_pre_scale_in_range_ReferenceIdeal (hReferenceIdeal := hReferenceIdeal) (hPre_scale_in_range_ReferenceIdeal := hPre_scale_in_range_ReferenceIdeal)
    ∧ preserves_Kernel_KernelIdeal
    ∧ algebraic_KernelIdeal_ReferenceIdeal_pre_scale_in_range_KernelIdeal (hKernelIdeal := hKernelIdeal) (hReferenceIdeal := hReferenceIdeal) (hPre_scale_in_range_KernelIdeal := hPre_scale_in_range_KernelIdeal)
-- ==== Pre_scale_in_range_KernelIdeal.lean ====
abbrev S4096x128 : Shape := ⟨2, ![4096, 128]⟩
abbrev S4096x8192 : Shape := ⟨2, ![4096, 8192]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x128 .fp8e4m3) (main_arg1 : FVec F S4096x8192 .fp8e4m3) (main_arg2 : FVec F S1 .f32) (main_arg3 : FVec F S1 .f32) : IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  let main_v5 : IVec S1 1 := andi main_v2 main_v4
  main_v5
-- ==== Pre_scale_in_range_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .fp8e4m3) (main_arg1 : FVec F S4096x8192 .fp8e4m3) (main_arg2 : FVec F S1 .f32) (main_arg3 : FVec F S1 .f32) : IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  let main_v5 : IVec S1 1 := andi main_v2 main_v4
  main_v5
-- ==== Kernel.lean ====
abbrev S4096x128 : Shape := ⟨2, ![4096, 128]⟩
abbrev S4096x8192 : Shape := ⟨2, ![4096, 8192]⟩
abbrev S1 : Shape := ⟨1, ![1]⟩
abbrev S128x8192 : Shape := ⟨2, ![128, 8192]⟩
abbrev S512x8192 : Shape := ⟨2, ![512, 8192]⟩
abbrev S128x4096 : Shape := ⟨2, ![128, 4096]⟩
abbrev S32 : Shape := ⟨1, ![32]⟩
abbrev S_ : Shape := ⟨0, ![]⟩
abbrev S128x128 : Shape := ⟨2, ![128, 128]⟩
abbrev S128x512 : Shape := ⟨2, ![128, 512]⟩

abbrev nBuf : Space → Nat
  | .hbm => 5
  | .vmem => 7
  | .smem => 2
  | _ => 0

abbrev bufTy : (tb : Table) → Fin (tcTables nBuf tb) → BufTy
  | .hbm, ⟨0, _⟩ => ⟨S4096x128, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .fp8e4m3⟩
  | .local _ .vmem, ⟨1, _⟩ => ⟨S512x8192, .fp8e4m3⟩
  | .local _ .vmem, ⟨2, _⟩ => ⟨S512x8192, .fp8e4m3⟩
  | .local _ .vmem, ⟨3, _⟩ => ⟨S128x8192, .f32⟩
  | .local _ .vmem, ⟨4, _⟩ => ⟨S4096x128, .fp8e4m3⟩
  | .local _ .vmem, ⟨5, _⟩ => ⟨S128x4096, .fp8e4m3⟩
  | .local _ .vmem, ⟨6, _⟩ => ⟨S128x4096, .f32⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev barrier0 : Sem sig := 0

abbrev nD : Nat := 32
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_9 : BitVec 32 := 1#32
  let v24 : BitVec 32 := Scalar.addi v2 c1_i32_9
  let c32_i32_10 : BitVec 32 := 32#32
  let v25 : BitVec 32 := Scalar.remsi v24 c32_i32_10
  let c1_i32_12 : BitVec 32 := 1#32
  let v26 : BitVec 32 := Scalar.muli v25 c1_i32_12
  let v27 : BitVec 32 := Scalar.addi c0_i32_13 v26
  v27.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v28 : BitVec 32 := Scalar.addi v2 c2_i32
  let c32_i32_14 : BitVec 32 := 32#32
  let v29 : BitVec 32 := Scalar.remsi v28 c32_i32_14
  let c1_i32_16 : BitVec 32 := 1#32
  let v30 : BitVec 32 := Scalar.muli v29 c1_i32_16
  let v31 : BitVec 32 := Scalar.addi c0_i32_17 v30
  v31.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v32 : BitVec 32 := Scalar.addi v2 c3_i32
  let c32_i32_18 : BitVec 32 := 32#32
  let v33 : BitVec 32 := Scalar.remsi v32 c32_i32_18
  let c1_i32_20 : BitVec 32 := 1#32
  let v34 : BitVec 32 := Scalar.muli v33 c1_i32_20
  let v35 : BitVec 32 := Scalar.addi c0_i32_21 v34
  v35.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v36 : BitVec 32 := Scalar.addi v2 c4_i32
  let c32_i32_22 : BitVec 32 := 32#32
  let v37 : BitVec 32 := Scalar.remsi v36 c32_i32_22
  let c1_i32_24 : BitVec 32 := 1#32
  let v38 : BitVec 32 := Scalar.muli v37 c1_i32_24
  let v39 : BitVec 32 := Scalar.addi c0_i32_25 v38
  v39.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v40 : BitVec 32 := Scalar.addi v2 c5_i32
  let c32_i32_26 : BitVec 32 := 32#32
  let v41 : BitVec 32 := Scalar.remsi v40 c32_i32_26
  let c1_i32_28 : BitVec 32 := 1#32
  let v42 : BitVec 32 := Scalar.muli v41 c1_i32_28
  let v43 : BitVec 32 := Scalar.addi c0_i32_29 v42
  v43.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v44 : BitVec 32 := Scalar.addi v2 c6_i32
  let c32_i32_30 : BitVec 32 := 32#32
  let v45 : BitVec 32 := Scalar.remsi v44 c32_i32_30
  let c1_i32_32 : BitVec 32 := 1#32
  let v46 : BitVec 32 := Scalar.muli v45 c1_i32_32
  let v47 : BitVec 32 := Scalar.addi c0_i32_33 v46
  v47.toNat
def k0_dev7 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v48 : BitVec 32 := Scalar.addi v2 c7_i32
  let c32_i32_34 : BitVec 32 := 32#32
  let v49 : BitVec 32 := Scalar.remsi v48 c32_i32_34
  let c1_i32_36 : BitVec 32 := 1#32
  let v50 : BitVec 32 := Scalar.muli v49 c1_i32_36
  let v51 : BitVec 32 := Scalar.addi c0_i32_37 v50
  v51.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v52 : BitVec 32 := Scalar.addi v2 c8_i32
  let c32_i32_38 : BitVec 32 := 32#32
  let v53 : BitVec 32 := Scalar.remsi v52 c32_i32_38
  let c1_i32_40 : BitVec 32 := 1#32
  let v54 : BitVec 32 := Scalar.muli v53 c1_i32_40
  let v55 : BitVec 32 := Scalar.addi c0_i32_41 v54
  v55.toNat
def k0_dev9 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v56 : BitVec 32 := Scalar.addi v2 c9_i32
  let c32_i32_42 : BitVec 32 := 32#32
  let v57 : BitVec 32 := Scalar.remsi v56 c32_i32_42
  let c1_i32_44 : BitVec 32 := 1#32
  let v58 : BitVec 32 := Scalar.muli v57 c1_i32_44
  let v59 : BitVec 32 := Scalar.addi c0_i32_45 v58
  v59.toNat
def k0_dev10 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v60 : BitVec 32 := Scalar.addi v2 c10_i32
  let c32_i32_46 : BitVec 32 := 32#32
  let v61 : BitVec 32 := Scalar.remsi v60 c32_i32_46
  let c1_i32_48 : BitVec 32 := 1#32
  let v62 : BitVec 32 := Scalar.muli v61 c1_i32_48
  let v63 : BitVec 32 := Scalar.addi c0_i32_49 v62
  v63.toNat
def k0_dev11 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v64 : BitVec 32 := Scalar.addi v2 c11_i32
  let c32_i32_50 : BitVec 32 := 32#32
  let v65 : BitVec 32 := Scalar.remsi v64 c32_i32_50
  let c1_i32_52 : BitVec 32 := 1#32
  let v66 : BitVec 32 := Scalar.muli v65 c1_i32_52
  let v67 : BitVec 32 := Scalar.addi c0_i32_53 v66
  v67.toNat
def k0_dev12 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v68 : BitVec 32 := Scalar.addi v2 c12_i32
  let c32_i32_54 : BitVec 32 := 32#32
  let v69 : BitVec 32 := Scalar.remsi v68 c32_i32_54
  let c1_i32_56 : BitVec 32 := 1#32
  let v70 : BitVec 32 := Scalar.muli v69 c1_i32_56
  let v71 : BitVec 32 := Scalar.addi c0_i32_57 v70
  v71.toNat
def k0_dev13 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v72 : BitVec 32 := Scalar.addi v2 c13_i32
  let c32_i32_58 : BitVec 32 := 32#32
  let v73 : BitVec 32 := Scalar.remsi v72 c32_i32_58
  let c1_i32_60 : BitVec 32 := 1#32
  let v74 : BitVec 32 := Scalar.muli v73 c1_i32_60
  let v75 : BitVec 32 := Scalar.addi c0_i32_61 v74
  v75.toNat
def k0_dev14 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v76 : BitVec 32 := Scalar.addi v2 c14_i32
  let c32_i32_62 : BitVec 32 := 32#32
  let v77 : BitVec 32 := Scalar.remsi v76 c32_i32_62
  let c1_i32_64 : BitVec 32 := 1#32
  let v78 : BitVec 32 := Scalar.muli v77 c1_i32_64
  let v79 : BitVec 32 := Scalar.addi c0_i32_65 v78
  v79.toNat
def k0_dev15 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v80 : BitVec 32 := Scalar.addi v2 c15_i32
  let c32_i32_66 : BitVec 32 := 32#32
  let v81 : BitVec 32 := Scalar.remsi v80 c32_i32_66
  let c1_i32_68 : BitVec 32 := 1#32
  let v82 : BitVec 32 := Scalar.muli v81 c1_i32_68
  let v83 : BitVec 32 := Scalar.addi c0_i32_69 v82
  v83.toNat
def k0_dev16 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v84 : BitVec 32 := Scalar.addi v2 c16_i32
  let c32_i32_70 : BitVec 32 := 32#32
  let v85 : BitVec 32 := Scalar.remsi v84 c32_i32_70
  let c1_i32_72 : BitVec 32 := 1#32
  let v86 : BitVec 32 := Scalar.muli v85 c1_i32_72
  let v87 : BitVec 32 := Scalar.addi c0_i32_73 v86
  v87.toNat
def k0_dev17 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v88 : BitVec 32 := Scalar.addi v2 c17_i32
  let c32_i32_74 : BitVec 32 := 32#32
  let v89 : BitVec 32 := Scalar.remsi v88 c32_i32_74
  let c1_i32_76 : BitVec 32 := 1#32
  let v90 : BitVec 32 := Scalar.muli v89 c1_i32_76
  let v91 : BitVec 32 := Scalar.addi c0_i32_77 v90
  v91.toNat
def k0_dev18 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v92 : BitVec 32 := Scalar.addi v2 c18_i32
  let c32_i32_78 : BitVec 32 := 32#32
  let v93 : BitVec 32 := Scalar.remsi v92 c32_i32_78
  let c1_i32_80 : BitVec 32 := 1#32
  let v94 : BitVec 32 := Scalar.muli v93 c1_i32_80
  let v95 : BitVec 32 := Scalar.addi c0_i32_81 v94
  v95.toNat
def k0_dev19 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v96 : BitVec 32 := Scalar.addi v2 c19_i32
  let c32_i32_82 : BitVec 32 := 32#32
  let v97 : BitVec 32 := Scalar.remsi v96 c32_i32_82
  let c1_i32_84 : BitVec 32 := 1#32
  let v98 : BitVec 32 := Scalar.muli v97 c1_i32_84
  let v99 : BitVec 32 := Scalar.addi c0_i32_85 v98
  v99.toNat
def k0_dev20 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v100 : BitVec 32 := Scalar.addi v2 c20_i32
  let c32_i32_86 : BitVec 32 := 32#32
  let v101 : BitVec 32 := Scalar.remsi v100 c32_i32_86
  let c1_i32_88 : BitVec 32 := 1#32
  let v102 : BitVec 32 := Scalar.muli v101 c1_i32_88
  let v103 : BitVec 32 := Scalar.addi c0_i32_89 v102
  v103.toNat
def k0_dev21 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v104 : BitVec 32 := Scalar.addi v2 c21_i32
  let c32_i32_90 : BitVec 32 := 32#32
  let v105 : BitVec 32 := Scalar.remsi v104 c32_i32_90
  let c1_i32_92 : BitVec 32 := 1#32
  let v106 : BitVec 32 := Scalar.muli v105 c1_i32_92
  let v107 : BitVec 32 := Scalar.addi c0_i32_93 v106
  v107.toNat
def k0_dev22 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v108 : BitVec 32 := Scalar.addi v2 c22_i32
  let c32_i32_94 : BitVec 32 := 32#32
  let v109 : BitVec 32 := Scalar.remsi v108 c32_i32_94
  let c1_i32_96 : BitVec 32 := 1#32
  let v110 : BitVec 32 := Scalar.muli v109 c1_i32_96
  let v111 : BitVec 32 := Scalar.addi c0_i32_97 v110
  v111.toNat
def k0_dev23 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v112 : BitVec 32 := Scalar.addi v2 c23_i32
  let c32_i32_98 : BitVec 32 := 32#32
  let v113 : BitVec 32 := Scalar.remsi v112 c32_i32_98
  let c1_i32_100 : BitVec 32 := 1#32
  let v114 : BitVec 32 := Scalar.muli v113 c1_i32_100
  let v115 : BitVec 32 := Scalar.addi c0_i32_101 v114
  v115.toNat
def k0_dev24 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v116 : BitVec 32 := Scalar.addi v2 c24_i32
  let c32_i32_102 : BitVec 32 := 32#32
  let v117 : BitVec 32 := Scalar.remsi v116 c32_i32_102
  let c1_i32_104 : BitVec 32 := 1#32
  let v118 : BitVec 32 := Scalar.muli v117 c1_i32_104
  let v119 : BitVec 32 := Scalar.addi c0_i32_105 v118
  v119.toNat
def k0_dev25 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v120 : BitVec 32 := Scalar.addi v2 c25_i32
  let c32_i32_106 : BitVec 32 := 32#32
  let v121 : BitVec 32 := Scalar.remsi v120 c32_i32_106
  let c1_i32_108 : BitVec 32 := 1#32
  let v122 : BitVec 32 := Scalar.muli v121 c1_i32_108
  let v123 : BitVec 32 := Scalar.addi c0_i32_109 v122
  v123.toNat
def k0_dev26 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v124 : BitVec 32 := Scalar.addi v2 c26_i32
  let c32_i32_110 : BitVec 32 := 32#32
  let v125 : BitVec 32 := Scalar.remsi v124 c32_i32_110
  let c1_i32_112 : BitVec 32 := 1#32
  let v126 : BitVec 32 := Scalar.muli v125 c1_i32_112
  let v127 : BitVec 32 := Scalar.addi c0_i32_113 v126
  v127.toNat
def k0_dev27 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v128 : BitVec 32 := Scalar.addi v2 c27_i32
  let c32_i32_114 : BitVec 32 := 32#32
  let v129 : BitVec 32 := Scalar.remsi v128 c32_i32_114
  let c1_i32_116 : BitVec 32 := 1#32
  let v130 : BitVec 32 := Scalar.muli v129 c1_i32_116
  let v131 : BitVec 32 := Scalar.addi c0_i32_117 v130
  v131.toNat
def k0_dev28 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v132 : BitVec 32 := Scalar.addi v2 c28_i32
  let c32_i32_118 : BitVec 32 := 32#32
  let v133 : BitVec 32 := Scalar.remsi v132 c32_i32_118
  let c1_i32_120 : BitVec 32 := 1#32
  let v134 : BitVec 32 := Scalar.muli v133 c1_i32_120
  let v135 : BitVec 32 := Scalar.addi c0_i32_121 v134
  v135.toNat
def k0_dev29 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v136 : BitVec 32 := Scalar.addi v2 c29_i32
  let c32_i32_122 : BitVec 32 := 32#32
  let v137 : BitVec 32 := Scalar.remsi v136 c32_i32_122
  let c1_i32_124 : BitVec 32 := 1#32
  let v138 : BitVec 32 := Scalar.muli v137 c1_i32_124
  let v139 : BitVec 32 := Scalar.addi c0_i32_125 v138
  v139.toNat
def k0_dev30 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v140 : BitVec 32 := Scalar.addi v2 c30_i32
  let c32_i32_126 : BitVec 32 := 32#32
  let v141 : BitVec 32 := Scalar.remsi v140 c32_i32_126
  let c1_i32_128 : BitVec 32 := 1#32
  let v142 : BitVec 32 := Scalar.muli v141 c1_i32_128
  let v143 : BitVec 32 := Scalar.addi c0_i32_129 v142
  v143.toNat
def k0_dev31 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v144 : BitVec 32 := Scalar.addi v2 c31_i32
  let c32_i32_130 : BitVec 32 := 32#32
  let v145 : BitVec 32 := Scalar.remsi v144 c32_i32_130
  let c1_i32_132 : BitVec 32 := 1#32
  let v146 : BitVec 32 := Scalar.muli v145 c1_i32_132
  let v147 : BitVec 32 := Scalar.addi c0_i32_133 v146
  v147.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_141 : BitVec 32 := 128#32
  let v156 : BitVec 32 := Scalar.muli v2 c128_i32_141
  ![0, v156.toNat]
def k0_off3 (d0 : Dev nD) (c1_i32_139 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v153 : BitVec 32 := Scalar.addi v2 c1_i32_139
  let c32_i32_140 : BitVec 32 := 32#32
  let v154 : BitVec 32 := Scalar.remsi v153 c32_i32_140
  let c128_i32 : BitVec 32 := 128#32
  let v155 : BitVec 32 := Scalar.muli v154 c128_i32
  let c0_i32_146 : BitVec 32 := 0#32
  ![v155.toNat, 0]
def k0_dev32 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_139 : BitVec 32 := 1#32
  let v153 : BitVec 32 := Scalar.addi v2 c1_i32_139
  let c32_i32_140 : BitVec 32 := 32#32
  let v154 : BitVec 32 := Scalar.remsi v153 c32_i32_140
  let c1_i32_143 : BitVec 32 := 1#32
  let v157 : BitVec 32 := Scalar.muli v154 c1_i32_143
  let v158 : BitVec 32 := Scalar.addi c0_i32_144 v157
  v158.toNat
def k0_dev33 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_147 : BitVec 32 := 2#32
  let v165 : BitVec 32 := Scalar.addi v2 c2_i32_147
  let c32_i32_148 : BitVec 32 := 32#32
  let v166 : BitVec 32 := Scalar.remsi v165 c32_i32_148
  let c1_i32_152 : BitVec 32 := 1#32
  let v169 : BitVec 32 := Scalar.muli v166 c1_i32_152
  let v170 : BitVec 32 := Scalar.addi c0_i32_153 v169
  v170.toNat
def k0_dev34 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_156 : BitVec 32 := 3#32
  let v177 : BitVec 32 := Scalar.addi v2 c3_i32_156
  let c32_i32_157 : BitVec 32 := 32#32
  let v178 : BitVec 32 := Scalar.remsi v177 c32_i32_157
  let c1_i32_161 : BitVec 32 := 1#32
  let v181 : BitVec 32 := Scalar.muli v178 c1_i32_161
  let v182 : BitVec 32 := Scalar.addi c0_i32_162 v181
  v182.toNat
def k0_dev35 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_165 : BitVec 32 := 4#32
  let v189 : BitVec 32 := Scalar.addi v2 c4_i32_165
  let c32_i32_166 : BitVec 32 := 32#32
  let v190 : BitVec 32 := Scalar.remsi v189 c32_i32_166
  let c1_i32_170 : BitVec 32 := 1#32
  let v193 : BitVec 32 := Scalar.muli v190 c1_i32_170
  let v194 : BitVec 32 := Scalar.addi c0_i32_171 v193
  v194.toNat
def k0_dev36 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_174 : BitVec 32 := 5#32
  let v201 : BitVec 32 := Scalar.addi v2 c5_i32_174
  let c32_i32_175 : BitVec 32 := 32#32
  let v202 : BitVec 32 := Scalar.remsi v201 c32_i32_175
  let c1_i32_179 : BitVec 32 := 1#32
  let v205 : BitVec 32 := Scalar.muli v202 c1_i32_179
  let v206 : BitVec 32 := Scalar.addi c0_i32_180 v205
  v206.toNat
def k0_dev37 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_183 : BitVec 32 := 6#32
  let v213 : BitVec 32 := Scalar.addi v2 c6_i32_183
  let c32_i32_184 : BitVec 32 := 32#32
  let v214 : BitVec 32 := Scalar.remsi v213 c32_i32_184
  let c1_i32_188 : BitVec 32 := 1#32
  let v217 : BitVec 32 := Scalar.muli v214 c1_i32_188
  let v218 : BitVec 32 := Scalar.addi c0_i32_189 v217
  v218.toNat
def k0_dev38 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_192 : BitVec 32 := 7#32
  let v225 : BitVec 32 := Scalar.addi v2 c7_i32_192
  let c32_i32_193 : BitVec 32 := 32#32
  let v226 : BitVec 32 := Scalar.remsi v225 c32_i32_193
  let c1_i32_197 : BitVec 32 := 1#32
  let v229 : BitVec 32 := Scalar.muli v226 c1_i32_197
  let v230 : BitVec 32 := Scalar.addi c0_i32_198 v229
  v230.toNat
def k0_dev39 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_201 : BitVec 32 := 8#32
  let v237 : BitVec 32 := Scalar.addi v2 c8_i32_201
  let c32_i32_202 : BitVec 32 := 32#32
  let v238 : BitVec 32 := Scalar.remsi v237 c32_i32_202
  let c1_i32_206 : BitVec 32 := 1#32
  let v241 : BitVec 32 := Scalar.muli v238 c1_i32_206
  let v242 : BitVec 32 := Scalar.addi c0_i32_207 v241
  v242.toNat
def k0_dev40 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_210 : BitVec 32 := 9#32
  let v249 : BitVec 32 := Scalar.addi v2 c9_i32_210
  let c32_i32_211 : BitVec 32 := 32#32
  let v250 : BitVec 32 := Scalar.remsi v249 c32_i32_211
  let c1_i32_215 : BitVec 32 := 1#32
  let v253 : BitVec 32 := Scalar.muli v250 c1_i32_215
  let v254 : BitVec 32 := Scalar.addi c0_i32_216 v253
  v254.toNat
def k0_dev41 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_219 : BitVec 32 := 10#32
  let v261 : BitVec 32 := Scalar.addi v2 c10_i32_219
  let c32_i32_220 : BitVec 32 := 32#32
  let v262 : BitVec 32 := Scalar.remsi v261 c32_i32_220
  let c1_i32_224 : BitVec 32 := 1#32
  let v265 : BitVec 32 := Scalar.muli v262 c1_i32_224
  let v266 : BitVec 32 := Scalar.addi c0_i32_225 v265
  v266.toNat
def k0_dev42 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_228 : BitVec 32 := 11#32
  let v273 : BitVec 32 := Scalar.addi v2 c11_i32_228
  let c32_i32_229 : BitVec 32 := 32#32
  let v274 : BitVec 32 := Scalar.remsi v273 c32_i32_229
  let c1_i32_233 : BitVec 32 := 1#32
  let v277 : BitVec 32 := Scalar.muli v274 c1_i32_233
  let v278 : BitVec 32 := Scalar.addi c0_i32_234 v277
  v278.toNat
def k0_dev43 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_237 : BitVec 32 := 12#32
  let v285 : BitVec 32 := Scalar.addi v2 c12_i32_237
  let c32_i32_238 : BitVec 32 := 32#32
  let v286 : BitVec 32 := Scalar.remsi v285 c32_i32_238
  let c1_i32_242 : BitVec 32 := 1#32
  let v289 : BitVec 32 := Scalar.muli v286 c1_i32_242
  let v290 : BitVec 32 := Scalar.addi c0_i32_243 v289
  v290.toNat
def k0_dev44 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_246 : BitVec 32 := 13#32
  let v297 : BitVec 32 := Scalar.addi v2 c13_i32_246
  let c32_i32_247 : BitVec 32 := 32#32
  let v298 : BitVec 32 := Scalar.remsi v297 c32_i32_247
  let c1_i32_251 : BitVec 32 := 1#32
  let v301 : BitVec 32 := Scalar.muli v298 c1_i32_251
  let v302 : BitVec 32 := Scalar.addi c0_i32_252 v301
  v302.toNat
def k0_dev45 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_255 : BitVec 32 := 14#32
  let v309 : BitVec 32 := Scalar.addi v2 c14_i32_255
  let c32_i32_256 : BitVec 32 := 32#32
  let v310 : BitVec 32 := Scalar.remsi v309 c32_i32_256
  let c1_i32_260 : BitVec 32 := 1#32
  let v313 : BitVec 32 := Scalar.muli v310 c1_i32_260
  let v314 : BitVec 32 := Scalar.addi c0_i32_261 v313
  v314.toNat
def k0_dev46 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_264 : BitVec 32 := 15#32
  let v321 : BitVec 32 := Scalar.addi v2 c15_i32_264
  let c32_i32_265 : BitVec 32 := 32#32
  let v322 : BitVec 32 := Scalar.remsi v321 c32_i32_265
  let c1_i32_269 : BitVec 32 := 1#32
  let v325 : BitVec 32 := Scalar.muli v322 c1_i32_269
  let v326 : BitVec 32 := Scalar.addi c0_i32_270 v325
  v326.toNat
def k0_dev47 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_273 : BitVec 32 := 16#32
  let v333 : BitVec 32 := Scalar.addi v2 c16_i32_273
  let c32_i32_274 : BitVec 32 := 32#32
  let v334 : BitVec 32 := Scalar.remsi v333 c32_i32_274
  let c1_i32_278 : BitVec 32 := 1#32
  let v337 : BitVec 32 := Scalar.muli v334 c1_i32_278
  let v338 : BitVec 32 := Scalar.addi c0_i32_279 v337
  v338.toNat
def k0_dev48 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_282 : BitVec 32 := 17#32
  let v345 : BitVec 32 := Scalar.addi v2 c17_i32_282
  let c32_i32_283 : BitVec 32 := 32#32
  let v346 : BitVec 32 := Scalar.remsi v345 c32_i32_283
  let c1_i32_287 : BitVec 32 := 1#32
  let v349 : BitVec 32 := Scalar.muli v346 c1_i32_287
  let v350 : BitVec 32 := Scalar.addi c0_i32_288 v349
  v350.toNat
def k0_dev49 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_291 : BitVec 32 := 18#32
  let v357 : BitVec 32 := Scalar.addi v2 c18_i32_291
  let c32_i32_292 : BitVec 32 := 32#32
  let v358 : BitVec 32 := Scalar.remsi v357 c32_i32_292
  let c1_i32_296 : BitVec 32 := 1#32
  let v361 : BitVec 32 := Scalar.muli v358 c1_i32_296
  let v362 : BitVec 32 := Scalar.addi c0_i32_297 v361
  v362.toNat
def k0_dev50 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_300 : BitVec 32 := 19#32
  let v369 : BitVec 32 := Scalar.addi v2 c19_i32_300
  let c32_i32_301 : BitVec 32 := 32#32
  let v370 : BitVec 32 := Scalar.remsi v369 c32_i32_301
  let c1_i32_305 : BitVec 32 := 1#32
  let v373 : BitVec 32 := Scalar.muli v370 c1_i32_305
  let v374 : BitVec 32 := Scalar.addi c0_i32_306 v373
  v374.toNat
def k0_dev51 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_309 : BitVec 32 := 20#32
  let v381 : BitVec 32 := Scalar.addi v2 c20_i32_309
  let c32_i32_310 : BitVec 32 := 32#32
  let v382 : BitVec 32 := Scalar.remsi v381 c32_i32_310
  let c1_i32_314 : BitVec 32 := 1#32
  let v385 : BitVec 32 := Scalar.muli v382 c1_i32_314
  let v386 : BitVec 32 := Scalar.addi c0_i32_315 v385
  v386.toNat
def k0_dev52 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_318 : BitVec 32 := 21#32
  let v393 : BitVec 32 := Scalar.addi v2 c21_i32_318
  let c32_i32_319 : BitVec 32 := 32#32
  let v394 : BitVec 32 := Scalar.remsi v393 c32_i32_319
  let c1_i32_323 : BitVec 32 := 1#32
  let v397 : BitVec 32 := Scalar.muli v394 c1_i32_323
  let v398 : BitVec 32 := Scalar.addi c0_i32_324 v397
  v398.toNat
def k0_dev53 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_327 : BitVec 32 := 22#32
  let v405 : BitVec 32 := Scalar.addi v2 c22_i32_327
  let c32_i32_328 : BitVec 32 := 32#32
  let v406 : BitVec 32 := Scalar.remsi v405 c32_i32_328
  let c1_i32_332 : BitVec 32 := 1#32
  let v409 : BitVec 32 := Scalar.muli v406 c1_i32_332
  let v410 : BitVec 32 := Scalar.addi c0_i32_333 v409
  v410.toNat
def k0_dev54 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_336 : BitVec 32 := 23#32
  let v417 : BitVec 32 := Scalar.addi v2 c23_i32_336
  let c32_i32_337 : BitVec 32 := 32#32
  let v418 : BitVec 32 := Scalar.remsi v417 c32_i32_337
  let c1_i32_341 : BitVec 32 := 1#32
  let v421 : BitVec 32 := Scalar.muli v418 c1_i32_341
  let v422 : BitVec 32 := Scalar.addi c0_i32_342 v421
  v422.toNat
def k0_dev55 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_345 : BitVec 32 := 24#32
  let v429 : BitVec 32 := Scalar.addi v2 c24_i32_345
  let c32_i32_346 : BitVec 32 := 32#32
  let v430 : BitVec 32 := Scalar.remsi v429 c32_i32_346
  let c1_i32_350 : BitVec 32 := 1#32
  let v433 : BitVec 32 := Scalar.muli v430 c1_i32_350
  let v434 : BitVec 32 := Scalar.addi c0_i32_351 v433
  v434.toNat
def k0_dev56 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_354 : BitVec 32 := 25#32
  let v441 : BitVec 32 := Scalar.addi v2 c25_i32_354
  let c32_i32_355 : BitVec 32 := 32#32
  let v442 : BitVec 32 := Scalar.remsi v441 c32_i32_355
  let c1_i32_359 : BitVec 32 := 1#32
  let v445 : BitVec 32 := Scalar.muli v442 c1_i32_359
  let v446 : BitVec 32 := Scalar.addi c0_i32_360 v445
  v446.toNat
def k0_dev57 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_363 : BitVec 32 := 26#32
  let v453 : BitVec 32 := Scalar.addi v2 c26_i32_363
  let c32_i32_364 : BitVec 32 := 32#32
  let v454 : BitVec 32 := Scalar.remsi v453 c32_i32_364
  let c1_i32_368 : BitVec 32 := 1#32
  let v457 : BitVec 32 := Scalar.muli v454 c1_i32_368
  let v458 : BitVec 32 := Scalar.addi c0_i32_369 v457
  v458.toNat
def k0_dev58 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_372 : BitVec 32 := 27#32
  let v465 : BitVec 32 := Scalar.addi v2 c27_i32_372
  let c32_i32_373 : BitVec 32 := 32#32
  let v466 : BitVec 32 := Scalar.remsi v465 c32_i32_373
  let c1_i32_377 : BitVec 32 := 1#32
  let v469 : BitVec 32 := Scalar.muli v466 c1_i32_377
  let v470 : BitVec 32 := Scalar.addi c0_i32_378 v469
  v470.toNat
def k0_dev59 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_381 : BitVec 32 := 28#32
  let v477 : BitVec 32 := Scalar.addi v2 c28_i32_381
  let c32_i32_382 : BitVec 32 := 32#32
  let v478 : BitVec 32 := Scalar.remsi v477 c32_i32_382
  let c1_i32_386 : BitVec 32 := 1#32
  let v481 : BitVec 32 := Scalar.muli v478 c1_i32_386
  let v482 : BitVec 32 := Scalar.addi c0_i32_387 v481
  v482.toNat
def k0_dev60 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_390 : BitVec 32 := 29#32
  let v489 : BitVec 32 := Scalar.addi v2 c29_i32_390
  let c32_i32_391 : BitVec 32 := 32#32
  let v490 : BitVec 32 := Scalar.remsi v489 c32_i32_391
  let c1_i32_395 : BitVec 32 := 1#32
  let v493 : BitVec 32 := Scalar.muli v490 c1_i32_395
  let v494 : BitVec 32 := Scalar.addi c0_i32_396 v493
  v494.toNat
def k0_dev61 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_399 : BitVec 32 := 30#32
  let v501 : BitVec 32 := Scalar.addi v2 c30_i32_399
  let c32_i32_400 : BitVec 32 := 32#32
  let v502 : BitVec 32 := Scalar.remsi v501 c32_i32_400
  let c1_i32_404 : BitVec 32 := 1#32
  let v505 : BitVec 32 := Scalar.muli v502 c1_i32_404
  let v506 : BitVec 32 := Scalar.addi c0_i32_405 v505
  v506.toNat
def k0_dev62 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_408 : BitVec 32 := 31#32
  let v513 : BitVec 32 := Scalar.addi v2 c31_i32_408
  let c32_i32_409 : BitVec 32 := 32#32
  let v514 : BitVec 32 := Scalar.remsi v513 c32_i32_409
  let c1_i32_413 : BitVec 32 := 1#32
  let v517 : BitVec 32 := Scalar.muli v514 c1_i32_413
  let v518 : BitVec 32 := Scalar.addi c0_i32_414 v517
  v518.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_417 : BitVec 32 := 128#32
  let v525 : BitVec 32 := Scalar.muli v2 c128_i32_417
  let v526 : Index := Scalar.indexCast v525
  let c0_418 : Index := 0#32
  ![v526.toNat, 0]
def k0_off5 (d0 : Dev nD) : Fin 2 → Nat :=
  let c0_420 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_419 : BitVec 32 := 128#32
  let v528 : BitVec 32 := Scalar.muli v2 c128_i32_419
  let v529 : Index := Scalar.indexCast v528
  ![0, v529.toNat]
def k0_off6 (d0 : Dev nD) (c1_i32_421 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v533 : BitVec 32 := Scalar.addi v2 c1_i32_421
  let c32_i32_422 : BitVec 32 := 32#32
  let v534 : BitVec 32 := Scalar.remsi v533 c32_i32_422
  ![v534.toNat]
def k0_off7 (d0 : Dev nD) (c1_i32_421 : BitVec 32) : Fin 2 → Nat :=
  let c0_i32_427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v533 : BitVec 32 := Scalar.addi v2 c1_i32_421
  let c32_i32_422 : BitVec 32 := 32#32
  let v534 : BitVec 32 := Scalar.remsi v533 c32_i32_422
  let c128_i32_423 : BitVec 32 := 128#32
  let v535 : BitVec 32 := Scalar.muli v534 c128_i32_423
  ![0, v535.toNat]
def k0_off8 (i : grid0.Coords) : Fin 2 → Nat :=
  let c0 : Index := 0#32
  let arg0 : BitVec 32 := BitVec.ofNat 32 (i 0).val
  let c512_i32 : BitVec 32 := 512#32
  let v6 : BitVec 32 := Scalar.muli arg0 c512_i32
  let v7 : Index := Scalar.indexCast v6
  ![0, v7.toNat]
def k0_cond2 (i : grid0.Coords) : BitVec 1 :=
  let arg0 : BitVec 32 := BitVec.ofNat 32 (i 0).val
  let c0_i32_5 : BitVec 32 := 0#32
  let v17 : BitVec 1 := Scalar.cmpi .eq arg0 c0_i32_5
  let v18 : BitVec 32 := Scalar.extui v17
  let c0_i32_6 : BitVec 32 := 0#32
  let v19 : BitVec 1 := Scalar.cmpi .ne v18 c0_i32_6
  v19

def k0_cond3 (i : grid0.Coords) : BitVec 1 :=
  let arg0 : BitVec 32 := BitVec.ofNat 32 (i 0).val
  let c0_i32_7 : BitVec 32 := 0#32
  let v20 : BitVec 1 := Scalar.cmpi .ne arg0 c0_i32_7
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x8192 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Plan.lean ====
/-
The exchange of blocks between the thirty-two devices, as a plan that every device follows once.

Every device holds 4096 rows of 128 columns and needs 128 rows of 4096 columns. Device `c` cuts its rows into
thirty-two blocks of 128 rows and sends block `t` to device `t`, which puts it at columns `128*c ..` of its own
buffer. Before anything is sent, every device tells every other that its buffer is there.

Three kinds of cells: a barrier cell per device, which each of the other thirty-one devices raises by one; thirty-one
send cells per device, raised when a block has been read; thirty-one receive cells per device, raised when a block
has arrived. All of them are used for one round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.SL.BI.BigOpNat
public import Idealize.ShloMosaic.Lib.ValueIdxCore
public import Mathlib.Algebra.BigOperators.Intervals

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The algebra -/

/-- The rounds of the exchange; a duty is named by the device that pays it. -/
abbrev UB : Type := URounds (GSem nD τ sig) (Dev nD)
/-- The pipeline's part and the exchange's part. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The start: memory `m`, every counter zero. -/
def s₀ : MemSt nD τ sig (Elt F) := ⟨m, fun _ => 0, ρ⟩

/-! ## The devices in the order in which device `c` turns to them -/

set_option backward.proofsInPublic true in
/-- The device `r + 1` places after `c`. -/
def peer (c : Dev nD) (r : ℕ) : Dev nD := ⟨(c.val + r + 1) % 32, Nat.mod_lt _ (by decide)⟩

theorem peer_val (c : Dev nD) (r : ℕ) : (peer c r).val = (c.val + r + 1) % 32 := rfl

theorem peer_ne (c : Dev nD) {r : ℕ} (h : r < 31) : peer c r ≠ c := fun e => by
  have := congrArg Fin.val e
  have hc : c.val < 32 := c.isLt
  rw [peer_val] at this
  omega

theorem peer_inj (c : Dev nD) {r r' : ℕ} (h : r < 31) (h' : r' < 31) (e : peer c r = peer c r') : r = r' := by
  have := congrArg Fin.val e
  have hc : c.val < 32 := c.isLt
  rw [peer_val, peer_val] at this
  omega

theorem exists_peer {c d : Dev nD} (h : d ≠ c) : ∃ r, r < 31 ∧ peer c r = d := by
  have hd : d.val < 32 := d.isLt
  have hc : c.val < 32 := c.isLt
  have hv : d.val ≠ c.val := fun e => h (Fin.ext e)
  refine ⟨(d.val + 31 - c.val) % 32, by omega, Fin.ext ?_⟩
  rw [peer_val]; omega

/-- The devices other than `c` are its thirty-one peers: a family over the one is a family over the other. -/
theorem others_eq {M : Type} [URA M] (c : Dev nD) (Φ : Dev nD → sProp M) :
    bigSep (Finset.univ.erase c) Φ = bigSep (Finset.range 31) fun r => Φ (peer c r) := by
  let e : Fin 31 ↪ Dev nD := ⟨fun r => peer c r.val, fun r r' h => Fin.ext (peer_inj c r.isLt r'.isLt h)⟩
  have h₁ : (Finset.univ.erase c : Finset (Dev nD)) = Finset.univ.map e := by
    ext d
    simp only [Finset.mem_erase, Finset.mem_univ, and_true, Finset.mem_map, true_and]
    refine ⟨fun h => ?_, fun ⟨r, hr⟩ => hr ▸ peer_ne c r.isLt⟩
    obtain ⟨r, hr, h'⟩ := exists_peer h
    exact ⟨⟨r, hr⟩, h'⟩
  have h₂ : Finset.range 31 = (Finset.univ : Finset (Fin 31)).map Fin.valEmbedding := by
    ext r
    simp only [Finset.mem_range, Finset.mem_map, Finset.mem_univ, true_and]
    exact ⟨fun h => ⟨⟨r, h⟩, rfl⟩, fun ⟨a, ha⟩ => ha ▸ a.isLt⟩
  rw [h₁, h₂, bigSep_map, bigSep_map]
  rfl

/-! ## The cells -/

/-- The barrier semaphore. -/
abbrev barS : Sem sig := (SemArray.scalar (sig.barrier 0 rfl) : Sems sig S_).sem
/-- The `n`-th send semaphore. -/
abbrev sendQ (n : Fin 32) : DmaSem sig := ⟨6 + n.val, by have := n.isLt; show 6 + n.val < 70; omega⟩
/-- The receive semaphore for the block from device `s`. -/
abbrev recvQ (s : Fin 32) : DmaSem sig := ⟨38 + s.val, by have := s.isLt; show 38 + s.val < 70; omega⟩

/-- The cells of one device: the barrier, the send cells, the receive cells. -/
abbrev Slot : Type := Unit ⊕ (Fin 32 ⊕ Fin 32)

abbrev slotSem : Slot → SemLoc sig
  | .inl _ => .reg barS
  | .inr (.inl n) => .dma (sendQ n)
  | .inr (.inr s) => .dma (recvQ s)

abbrev kcell (ck : Dev nD × Slot) : GSem nD τ sig := ((ck.1 : Thread nD τ), slotSem ck.2)
abbrev barCell (c : Dev nD) : GSem nD τ sig := ((c : Thread nD τ), .reg barS)
abbrev sendCell (c : Dev nD) (n : Fin 32) : GSem nD τ sig := ((c : Thread nD τ), .dma (sendQ n))
abbrev recvCell (c s : Dev nD) : GSem nD τ sig := ((c : Thread nD τ), .dma (recvQ s))

theorem slotSem_inj : Function.Injective slotSem := by
  intro a b h
  match a, b, h with
  | .inl _, .inl _, _ => rfl
  | .inl _, .inr (.inl _), h => cases h
  | .inl _, .inr (.inr _), h => cases h
  | .inr (.inl _), .inl _, h => cases h
  | .inr (.inr _), .inl _, h => cases h
  | .inr (.inl n), .inr (.inl n'), h =>
    have := congrArg Fin.val (SemLoc.dma.inj h)
    simp only at this
    exact congrArg (fun x => Sum.inr (Sum.inl x)) (Fin.ext (by omega))
  | .inr (.inr n), .inr (.inr n'), h =>
    have := congrArg Fin.val (SemLoc.dma.inj h)
    simp only at this
    exact congrArg (fun x => Sum.inr (Sum.inr x)) (Fin.ext (by omega))
  | .inr (.inl n), .inr (.inr n'), h =>
    have := congrArg Fin.val (SemLoc.dma.inj h)
    have := n.isLt; simp only at *; omega
  | .inr (.inr n), .inr (.inl n'), h =>
    have := congrArg Fin.val (SemLoc.dma.inj h)
    have := n'.isLt; simp only at *; omega

theorem kcell_inj : Function.Injective kcell := fun a b h => by
  obtain ⟨c, k⟩ := a
  obtain ⟨c', k'⟩ := b
  have h₁ : c = c' := congrArg (fun g : GSem nD τ sig => g.1.1) h
  have h₂ : k = k' := slotSem_inj (congrArg (fun g : GSem nD τ sig => g.2) h)
  rw [h₁, h₂]

/-! ## The blocks that travel -/

theorem col_inb (s : Dev nD) : ∀ a, (![0, 128 * s.val] : Fin 2 → ℕ) a + S128x128.size a ≤ S128x4096.size a := by
  revert s; decide +kernel
theorem row_inb (t : Dev nD) : ∀ a, (![128 * t.val, 0] : Fin 2 → ℕ) a + S128x128.size a ≤ S4096x128.size a := by
  revert t; decide +kernel

abbrev colR (s : Dev nD) : Rect S128x4096 := Rect.unit (s := S128x4096) ![0, 128 * s.val] S128x128.size (col_inb s)
abbrev rowR (t : Dev nD) : Rect S4096x128 := Rect.unit (s := S4096x128) ![128 * t.val, 0] S128x128.size (row_inb t)

/-- Columns `128*s ..` of the buffer the blocks arrive in: where the block from device `s` lands. -/
abbrev colM (s : Dev nD) : Memref sig .tc .vmem S128x128 .fp8e4m3 := (Memref.whole cc0_scratch1).slice (colR s) (fun _ => rfl)
/-- Rows `128*t ..` of the buffer the blocks leave from: the block for device `t`. -/
abbrev rowM (t : Dev nD) : Memref sig .tc .vmem S128x128 .fp8e4m3 := (Memref.whole cc0_scratch0).slice (rowR t) (fun _ => rfl)

/-- What one block counts for. -/
@[irreducible] def N : ℕ := (colM 0).view.dmaCredit
theorem N_pos : 0 < N := by unfold N; exact View.dmaCredit_pos _ (by decide)
theorem credit_col (s : Dev nD) : (colM s).view.dmaCredit = N := by unfold N; rfl
theorem credit_row (t : Dev nD) : (rowM t).view.dmaCredit = N := by unfold N; revert t; decide +kernel

/-- Device `c`'s columns of the first operand. -/
def xs (c : Dev nD) : S4096x128.Idx → Elt F .fp8e4m3 :=
  (win0_0.blk t0_0).view.read (Elt F) ((s₀ m ρ).mem ((c : Thread nD τ).loc main_arg0))

set_option backward.proofsInPublic true in
/-- Device `c`'s rows of the first operand: columns `128*s ..` are device `s`'s. -/
def xg (c : Dev nD) : S128x4096.Idx → Elt F .fp8e4m3 := fun i =>
  xs m ρ ⟨(i 1).val / 128, by have : (i 1).val < 4096 := (i 1).isLt; show (i 1).val / 128 < 32; omega⟩
    (ix2 (n0 := 4096) (n1 := 128)
      ⟨128 * c.val + (i 0).val, by have : (i 0).val < 128 := (i 0).isLt; have : c.val < 32 := c.isLt; omega⟩
      ⟨(i 1).val % 128, Nat.mod_lt _ (by decide)⟩)

/-- Device `p`'s columns for device `s`, holding what `f` says there. -/
def colPts (p s : Dev nD) (f : S128x4096.Idx → Elt F .fp8e4m3) : sProp 𝕄 :=
  (colM s).view.loc (p : Thread nD τ) ↦[(colM s).view.set]{fullShare} f
/-- Device `p`'s rows for device `t`, holding what `f` says there. -/
def rowPts (p t : Dev nD) (f : S4096x128.Idx → Elt F .fp8e4m3) : sProp 𝕄 :=
  (rowM t).view.loc (p : Thread nD τ) ↦[(rowM t).view.set]{fullShare} f

omit [FloatOps F] in
instance colPts_storable (p s : Dev nD) (f) : BI.Storable (upEmb : UEmb _ 𝕄) (colPts (F := F) p s f) := by unfold colPts; infer_instance
omit [FloatOps F] in
instance rowPts_storable (p t : Dev nD) (f) : BI.Storable (upEmb : UEmb _ 𝕄) (rowPts (F := F) p t f) := by unfold rowPts; infer_instance

/-! ## The plan -/

/-- Who pays into device `c`'s cells: everyone else into the barrier, `c` itself into the send cells but the first, device
    `s` into the receive cell for `s`. -/
def payers (c : Dev nD) : SemLoc sig → Finset (Dev nD)
  | .reg _ => Finset.univ.erase c
  | .dma q => if 38 ≤ q.val then Finset.univ.filter fun s => 38 + s.val = q.val ∧ s ≠ c else if 6 < q.val then {c} else ∅

/-- What device `d` hands over with a payment into device `c`'s cell. -/
def handed (c : Dev nD) (d : Dev nD) : SemLoc sig → sProp 𝕄
  | .reg _ => iprop(∃ f, colPts d c f)
  | .dma q => if 38 ≤ q.val then colPts c d (xg m ρ c) else rowPts c (peer c (q.val - 7)) (xs m ρ c)

instance handed_storable (c d : Dev nD) (sm : SemLoc sig) : BI.Storable (upEmb : UEmb _ 𝕄) (handed (F := F) m ρ c d sm) := by
  cases sm <;> unfold handed
  · infer_instance
  · dsimp only; split <;> infer_instance

def plan : Rounds.Schedule (GSem nD τ sig) (Dev nD) 𝕄 where
  duties g r := if r = 0 ∧ g.1.2 = .tc then payers g.1.1 g.2 else ∅
  unitless _ := False
  amount g _ _ := match g.2 with | .reg _ => 1 | .dma _ => N
  payload g _ d := handed m ρ g.1.1 d g.2
  amount_pos g _ _ _ := by
    cases g.2
    · exact Nat.one_pos
    · exact N_pos

instance plan_storable (g : GSem nD τ sig) (r : ℕ) (d : Dev nD) :
    BI.Storable (upEmb : UEmb _ 𝕄) ((plan (F := F) m ρ).payload g r d) := handed_storable m ρ g.1.1 d g.2

section Plan
variable (c : Dev nD)

theorem duties_zero (sm : SemLoc sig) : (plan (F := F) m ρ).duties ((c : Thread nD τ), sm) 0 = payers c sm := by
  dsimp only [plan]; exact if_pos ⟨rfl, rfl⟩
theorem duties_later (g : GSem nD τ sig) : ∀ r, 1 ≤ r → (plan (F := F) m ρ).duties g r = ∅ :=
  fun r hr => by dsimp only [plan]; exact if_neg fun h => by have := h.1; omega

theorem payers_recv {s : Dev nD} (h : s ≠ c) : payers c (.dma (recvQ s)) = {s} := by
  unfold payers; dsimp only; rw [if_pos (show 38 ≤ 38 + s.val by omega)]
  ext d
  simp only [Finset.mem_filter, Finset.mem_univ, true_and, Finset.mem_singleton]
  exact ⟨fun e => Fin.ext (by have := e.1; omega), fun e => by subst e; exact ⟨rfl, h⟩⟩
theorem payers_recv_self : payers c (.dma (recvQ c)) = ∅ := by
  unfold payers; dsimp only; rw [if_pos (show 38 ≤ 38 + c.val by omega)]
  refine Finset.filter_eq_empty_iff.mpr fun d _ e => e.2 (Fin.ext (by have := e.1; omega))
theorem payers_send {n : Fin 32} (h : 0 < n.val) : payers c (.dma (sendQ n)) = {c} := by
  have hn := n.isLt
  unfold payers; dsimp only
  rw [if_neg (show ¬ 38 ≤ 6 + n.val by omega), if_pos (show 6 < 6 + n.val by omega)]
theorem payers_send_zero : payers c (.dma (sendQ 0)) = ∅ := by
  unfold payers; dsimp only
  rw [if_neg (show ¬ 38 ≤ 6 + (0 : Fin 32).val by decide), if_neg (show ¬ 6 < 6 + (0 : Fin 32).val by decide)]

theorem payload_bar (d : Dev nD) : (plan (F := F) m ρ).payload (barCell c) 0 d = iprop(∃ f, colPts d c f) := rfl
theorem payload_dma (q : DmaSem sig) (d : Dev nD) :
    (plan (F := F) m ρ).payload ((c : Thread nD τ), .dma q) 0 d = handed m ρ c d (.dma q) := rfl
theorem amount_dma (q : DmaSem sig) (d : Dev nD) : (plan (F := F) m ρ).amount ((c : Thread nD τ), .dma q) 0 d = N := rfl
theorem handed_recv (s : Dev nD) : handed (F := F) m ρ c s (.dma (recvQ s)) = colPts c s (xg m ρ c) := by
  unfold handed; exact if_pos (show 38 ≤ 38 + s.val by omega)
theorem handed_send (d : Dev nD) {r : ℕ} (hr : r < 31) :
    handed (F := F) m ρ c d (.dma (sendQ ⟨r + 1, by omega⟩)) = rowPts c (peer c r) (xs m ρ c) := by
  unfold handed
  dsimp only
  rw [if_neg (show ¬ 38 ≤ 6 + (r + 1) by omega), show 6 + (r + 1) - 7 = r by omega]

theorem expect_bar : (plan (F := F) m ρ).expect (barCell c) 0 = 31 := by
  unfold Schedule.expect Schedule.amountOf
  rw [duties_zero]
  show ∑ _ ∈ Finset.univ.erase c, 1 = 31
  rw [Finset.sum_const, Finset.card_erase_of_mem (Finset.mem_univ _), Finset.card_univ, Fintype.card_fin]; rfl
theorem expect_recv {s : Dev nD} (h : s ≠ c) : (plan (F := F) m ρ).expect (recvCell c s) 0 = N := by
  unfold Schedule.expect Schedule.amountOf
  rw [duties_zero, payers_recv c h, Finset.sum_singleton]; rfl
theorem expect_send {n : Fin 32} (h : 0 < n.val) : (plan (F := F) m ρ).expect (sendCell c n) 0 = N := by
  unfold Schedule.expect Schedule.amountOf
  rw [duties_zero, payers_send c h, Finset.sum_singleton]; rfl

/-- What a device gets out of its barrier: everybody else's columns for it. -/
theorem rest_bar : bigSep ((plan (F := F) m ρ).duties (barCell c) 0 \ ∅) (fun d => (plan (F := F) m ρ).payload (barCell c) 0 d)
    = bigSep (Finset.range 31) fun r => iprop(∃ f, colPts (peer c r) c f) := by
  rw [Finset.sdiff_empty, duties_zero]
  exact others_eq c fun d => iprop(∃ f, colPts d c f)
theorem rest_recv {s : Dev nD} (h : s ≠ c) :
    bigSep ((plan (F := F) m ρ).duties (recvCell c s) 0 \ ∅) (fun d => (plan (F := F) m ρ).payload (recvCell c s) 0 d) = colPts c s (xg m ρ c) := by
  rw [Finset.sdiff_empty, duties_zero, payers_recv c h, bigSep_singleton]
  exact handed_recv m ρ c s
theorem rest_send {r : ℕ} (hr : r < 31) :
    bigSep ((plan (F := F) m ρ).duties (sendCell c ⟨r + 1, by omega⟩) 0 \ ∅) (fun d => (plan (F := F) m ρ).payload (sendCell c ⟨r + 1, by omega⟩) 0 d)
      = rowPts c (peer c r) (xs m ρ c) := by
  rw [Finset.sdiff_empty, duties_zero, payers_send c (Nat.succ_pos r), bigSep_singleton]
  exact handed_send m ρ c c hr

end Plan

/-! ## What is owed, and in what order the cells may be waited for -/

/-- The barrier units device `c` still has to pay when it has paid `n` of them. -/
def owedBar (c : Dev nD) (n : ℕ) : CellTallies nD τ sig Unit := ∑ r ∈ Finset.Ico n 31, tallyAt (barCell (peer c r)) () 1
/-- The blocks device `c` still has to send when it has sent `n` of them. -/
def owedSend (c : Dev nD) (n : ℕ) : CellTallies nD τ sig Unit := ∑ r ∈ Finset.Ico n 31, tallyAt (recvCell (peer c r) c) () N
/-- What device `c` owes at the start. -/
def O₀ (c : Dev nD) : CellTallies nD τ sig Unit := owedSend c 0 + owedBar c 0

theorem owedBar_step (c : Dev nD) {n : ℕ} (h : n < 31) : owedBar c n = owedBar c (n + 1) + tallyAt (barCell (peer c n)) () 1 := by
  unfold owedBar; rw [Finset.sum_eq_sum_Ico_succ_bot h, add_comm]
theorem owedSend_step (c : Dev nD) {n : ℕ} (h : n < 31) : owedSend c n = owedSend c (n + 1) + tallyAt (recvCell (peer c n) c) () N := by
  unfold owedSend; rw [Finset.sum_eq_sum_Ico_succ_bot h, add_comm]
theorem owedBar_end (c : Dev nD) : owedBar c 31 = 0 := by unfold owedBar; rw [Finset.Ico_self, Finset.sum_empty]
theorem owedSend_end (c : Dev nD) : owedSend c 31 = 0 := by unfold owedSend; rw [Finset.Ico_self, Finset.sum_empty]

/-- A sum of tallies has something at a cell only if one of them is at that cell. -/
theorem tallies_pos {s : Finset ℕ} {f : ℕ → GSem nD τ sig} {k : ℕ} {g : GSem nD τ sig} {u : Unit}
    (h : 0 < (∑ r ∈ s, (tallyAt (f r) () k : CellTallies nD τ sig Unit)) g u) : ∃ r ∈ s, g = f r := by
  by_contra hn
  push Not at hn
  rw [Finset.sum_apply, Finsupp.finset_sum_apply] at h
  rw [Finset.sum_eq_zero fun r hr => by rw [tallyAt_apply, if_neg fun h' => hn r hr h'.1]] at h
  exact Nat.lt_irrefl 0 h

theorem owedSend_pos {c : Dev nD} {n : ℕ} {g : GSem nD τ sig} {u : Unit} (h : 0 < owedSend c n g u) : ∃ r, g = recvCell (peer c r) c := by
  obtain ⟨r, _, e⟩ := tallies_pos h
  exact ⟨r, e⟩
theorem O₀_pos {c : Dev nD} {g : GSem nD τ sig} {u : Unit} (h : 0 < O₀ c g u) :
    (∃ r, g = recvCell (peer c r) c) ∨ ∃ r, g = barCell (peer c r) := by
  unfold O₀ at h
  rw [Pi.add_apply, Finsupp.add_apply] at h
  rcases Nat.eq_zero_or_pos (owedSend c 0 g u) with h0 | h0
  · rw [h0, zero_add] at h
    obtain ⟨r, _, e⟩ := tallies_pos h
    exact .inr ⟨r, e⟩
  · exact .inl (owedSend_pos h0)

/-- One name for the waits of a core's cells. -/
def L (g : GSem nD τ sig) : Finset Unit := if g.1.2 = .tc then {()} else ∅
/-- The barriers come before the receive cells; everything else comes first. -/
def lv (g : GSem nD τ sig) (_ : Unit) : ℕ := match g.2 with
  | .reg _ => 1
  | .dma q => if 38 ≤ q.val then 2 else 0

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _
theorem lv_recv (c s : Dev nD) : lv (recvCell c s) () = 2 := if_pos (show 38 ≤ 38 + s.val by omega)

/-- A wait for a cell that is neither a barrier nor a receive cell is allowed whatever a device owes of its round. -/
theorem mayWait_low (c : Dev nD) (q : DmaSem sig) (hq : q.val < 38) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases O₀_pos hg with ⟨r, rfl⟩ | ⟨r, rfl⟩ <;> exact mem_L _ _ _)
      (fun p hp => by rw [Finset.mem_singleton.mp hp]; exact le_of_eq (if_neg (by omega)))
      (fun g u hg => by
        rcases O₀_pos hg with ⟨r, rfl⟩ | ⟨r, rfl⟩
        · rw [lv_recv]; decide
        · exact Nat.one_pos)
  · rw [MayWait_zero]; iintro -; iempintro

/-- The wait for the barrier is allowed while the blocks are owed. -/
theorem mayWait_bar (c : Dev nD) : (levAts L lv : sProp 𝕄) ⊢ MayWait (c : Thread nD τ) (.reg barS) () (owedSend c 0) :=
  MayOwe.of_cut (L := L) (lev := lv) 1 (fun p hp => by rw [Finset.mem_singleton.mp hp]; exact mem_L _ _ _)
    (fun g u hg => by obtain ⟨r, rfl⟩ := owedSend_pos hg; exact mem_L _ _ _)
    (fun p hp => by rw [Finset.mem_singleton.mp hp]; exact le_of_eq rfl)
    (fun g u hg => by obtain ⟨r, rfl⟩ := owedSend_pos hg; rw [lv_recv]; decide)

end Cert.KernelIdeal.Exchange
-- ==== Proof.Blocks.lean ====
/-
The two buffers of the exchange cut into their thirty-two blocks, what a block holds after it has arrived, and the
semaphores and slices of the kernel's text under the names of the plan.
-/
module

public import proofs.«01_k».proof.Proof.Plan
public import Idealize.ShloMosaic.Lib.Ring
public import Idealize.ShloMosaic.Lib.Pipeline.Value

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## The semaphores and slices of the text -/

theorem sem_inb (s : Fin 32) : ∀ a, (![s.val] : Fin 1 → ℕ) a + S1.size a ≤ S32.size a := by revert s; decide +kernel

theorem sendSem_at : ∀ s : Fin 32, ((cc0_scratch3.slice (Rect.unit (s := S32) ![s.val] S1.size (sem_inb s))).squeeze S_ squeezes_S1_S_).sem = sendQ s := by
  decide +kernel
theorem recvSem_at : ∀ s : Fin 32, ((cc0_scratch4.slice (Rect.unit (s := S32) ![s.val] S1.size (sem_inb s))).squeeze S_ squeezes_S1_S_).sem = recvQ s := by
  decide +kernel

theorem sendSem_eq (s : Fin 32) {o : Fin 1 → ℕ} (ho : o = ![s.val]) (h) :
    ((cc0_scratch3.slice (Rect.unit (s := S32) o S1.size h)).squeeze S_ squeezes_S1_S_).sem = sendQ s := by
  subst ho; exact sendSem_at s
theorem recvSem_eq (s : Fin 32) {o : Fin 1 → ℕ} (ho : o = ![s.val]) (h) :
    ((cc0_scratch4.slice (Rect.unit (s := S32) o S1.size h)).squeeze S_ squeezes_S1_S_).sem = recvQ s := by
  subst ho; exact recvSem_at s

theorem colM_eq (s : Dev nD) {o : Fin 2 → ℕ} (ho : o = ![0, 128 * s.val]) (h) (h') :
    (Memref.whole cc0_scratch1).slice (Rect.unit (s := S128x4096) o S128x128.size h) h' = colM s := by subst ho; rfl
theorem rowM_eq (t : Dev nD) {o : Fin 2 → ℕ} (ho : o = ![128 * t.val, 0]) (h) (h') :
    (Memref.whole cc0_scratch0).slice (Rect.unit (s := S4096x128) o S128x128.size h) h' = rowM t := by subst ho; rfl

/-! ## The blocks cover their buffers and lie apart -/

abbrev colSet (s : Dev nD) : Finset S128x4096.Idx := (colM s).view.set
abbrev rowSet (t : Dev nD) : Finset S4096x128.Idx := (rowM t).view.set

theorem mem_col {s : Dev nD} {i : S128x4096.Idx} : i ∈ (colM s).view.set ↔ 128 * s.val ≤ (i 1).val ∧ (i 1).val < 128 * s.val + 128 := by
  show i ∈ ((View.whole cc0_scratch1).slice (colR s)).set ↔ _
  rw [View.set_slice_whole]
  refine Rect.mem_set_unit.trans ⟨fun h => h 1, fun h a => ?_⟩
  fin_cases a
  · exact ⟨Nat.zero_le _, lt_of_lt_of_eq (i 0).isLt rfl⟩
  · exact h
theorem mem_row {t : Dev nD} {i : S4096x128.Idx} : i ∈ (rowM t).view.set ↔ 128 * t.val ≤ (i 0).val ∧ (i 0).val < 128 * t.val + 128 := by
  show i ∈ ((View.whole cc0_scratch0).slice (rowR t)).set ↔ _
  rw [View.set_slice_whole]
  refine Rect.mem_set_unit.trans ⟨fun h => h 0, fun h a => ?_⟩
  fin_cases a
  · exact h
  · exact ⟨Nat.zero_le _, lt_of_lt_of_eq (i 1).isLt rfl⟩

theorem cols_apart (s s' : Dev nD) (h : s ≠ s') : Disjoint (colSet s) (colSet s') :=
  Finset.disjoint_left.mpr fun i hi hi' => h (Fin.ext (by have := mem_col.mp hi; have := mem_col.mp hi'; omega))
theorem rows_apart (t t' : Dev nD) (h : t ≠ t') : Disjoint (rowSet t) (rowSet t') :=
  Finset.disjoint_left.mpr fun i hi hi' => h (Fin.ext (by have := mem_row.mp hi; have := mem_row.mp hi'; omega))

theorem cols_cover : (Finset.univ : Finset (Dev nD)).biUnion colSet = Finset.univ := by
  refine Finset.eq_univ_of_forall fun i => Finset.mem_biUnion.mpr ?_
  have hi : (i 1).val < 4096 := (i 1).isLt
  have hd : (i 1).val / 128 < nD := show _ < 32 by omega
  exact ⟨⟨(i 1).val / 128, hd⟩, Finset.mem_univ _, mem_col.mpr ⟨show 128 * ((i 1).val / 128) ≤ (i 1).val by omega, show (i 1).val < 128 * ((i 1).val / 128) + 128 by omega⟩⟩
theorem rows_cover : (Finset.univ : Finset (Dev nD)).biUnion rowSet = Finset.univ := by
  refine Finset.eq_univ_of_forall fun i => Finset.mem_biUnion.mpr ?_
  have hi : (i 0).val < 4096 := (i 0).isLt
  have hd : (i 0).val / 128 < nD := show _ < 32 by omega
  exact ⟨⟨(i 0).val / 128, hd⟩, Finset.mem_univ _, mem_row.mpr ⟨show 128 * ((i 0).val / 128) ≤ (i 0).val by omega, show (i 0).val < 128 * ((i 0).val / 128) + 128 by omega⟩⟩

/-- The buffer the blocks arrive in, held whole, is its own block and those of the peers. -/
theorem cols_eq (c : Dev nD) (f : S128x4096.Idx → Elt F .fp8e4m3) :
    (((c : Thread nD τ).loc cc0_scratch1) ↦{fullShare} f : sProp 𝕄)
      = iprop(colPts c c f ∗ bigSep (Finset.range 31) fun r => colPts c (peer c r) f) := by
  refine (Ring.pointsTo_blocks (ℓ := (c : Thread nD τ).loc cc0_scratch1) colSet cols_apart cols_cover f).trans ?_
  rw [bigSep_univ_split c, others_eq c]
  rfl
/-- The buffer the blocks leave from, held whole, is the own block and those for the peers. -/
theorem rows_eq (c : Dev nD) (f : S4096x128.Idx → Elt F .fp8e4m3) :
    (((c : Thread nD τ).loc cc0_scratch0) ↦{fullShare} f : sProp 𝕄)
      = iprop(rowPts c c f ∗ bigSep (Finset.range 31) fun r => rowPts c (peer c r) f) := by
  refine (Ring.pointsTo_blocks (ℓ := (c : Thread nD τ).loc cc0_scratch0) rowSet rows_apart rows_cover f).trans ?_
  rw [bigSep_univ_split c, others_eq c]
  rfl

/-! ## What a block holds when it has arrived -/

/-- Block `t` of device `s`'s columns is block `s` of device `t`'s rows. -/
theorem xs_row (s t : Dev nD) (j : S128x128.Idx) : xs m ρ s ((rowR t).emb j) = xg m ρ t ((colR s).emb j) := by
  have h0 : (j 0).val < 128 := (j 0).isLt
  have h1 : (j 1).val < 128 := (j 1).isLt
  unfold xg
  have e1 : (((colR s).emb j) 1).val = 128 * s.val + 1 * (j 1).val := rfl
  have e0 : (((colR s).emb j) 0).val = 0 + 1 * (j 0).val := rfl
  have d : (⟨(((colR s).emb j) 1).val / 128, by rw [e1]; have : s.val < 32 := s.isLt; show _ < 32; omega⟩ : Dev nD) = s := Fin.ext (by
    show (((colR s).emb j) 1).val / 128 = s.val
    rw [e1]; omega)
  refine Eq.trans ?_ (congrArg (fun z => xs m ρ z _) d.symm)
  refine congrArg (xs m ρ s) (funext fun a => Fin.ext ?_)
  match a with
  | ⟨0, _⟩ =>
    show 128 * t.val + 1 * (j 0).val = 128 * t.val + (((colR s).emb j) 0).val
    rw [e0]; omega
  | ⟨1, _⟩ =>
    show 0 + 1 * (j 1).val = (((colR s).emb j) 1).val % 128
    rw [e1]; omega

/-- A block of `xs`, written over whatever a block of the arrival buffer held, is the block of `xg`. -/
theorem col_written (s t : Dev nD) (f : S128x4096.Idx → Elt F .fp8e4m3) (w : S128x128.Idx → Elt F .fp8e4m3)
    (hw : ∀ j, w j = xs m ρ s ((rowR t).emb j)) :
    ∀ i ∈ (colM s).view.set, (colM s).view.write (Elt F) f w Finset.univ i = xg m ρ t i := fun i hi => by
  obtain ⟨j, -, rfl⟩ := Finset.mem_map.mp hi
  refine (View.write_emb_of_mem (v := (colM s).view) (Val := Elt F) f w (Finset.mem_univ j)).trans ?_
  exact (hw j).trans (xs_row m ρ s t j)

/-- The transfer of a block. -/
theorem col_landed (s t : Dev nD) (f : S128x4096.Idx → Elt F .fp8e4m3) :
    ((colM s).view.loc (t : Thread nD τ) ↦[(colM s).view.set]{fullShare}
        ((colM s).view.write (Elt F) f ((rowM t).view.read (Elt F) (xs m ρ s)) Finset.univ) : sProp 𝕄)
      = colPts t s (xg m ρ t) :=
  pointsTo_congr (col_written m ρ s t f _ fun _ => rfl)

/-- The device's own block, which it copies itself. -/
theorem col_own (c : Dev nD) (f : S128x4096.Idx → Elt F .fp8e4m3) :
    ((colM c).view.loc (c : Thread nD τ) ↦[(colM c).view.set]{fullShare}
        ((colM c).view.write (Elt F) f (k0_pay5 ((Memref.whole cc0_scratch0).view.readAt (Elt F) (rowR c).toLoadRect (xs m ρ c))) Finset.univ) : sProp 𝕄)
      = colPts c c (xg m ρ c) :=
  pointsTo_congr (col_written m ρ c c f _ fun j => by unfold k0_pay5; dsimp only; rw [shapeCast_self]; rfl)

end Cert.KernelIdeal.Exchange
-- ==== Proof.Steps.lean ====
/-
The four runs of the exchange, one operation at a time: raising the others' barriers, sending the blocks, waiting for
the blocks that come, waiting for the blocks that have left. Each run has a state that counts how many of its
thirty-one operations are done, and one lemma that takes the state from `n` to `n + 1`.
-/
module

public import proofs.«01_k».proof.Proof.Blocks

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The number of the send semaphore for the `r`-th peer. -/
abbrev sn (r : ℕ) : Fin 32 := peer 0 r

theorem sn_eq {r : ℕ} (h : r < 31) : sn r = ⟨r + 1, by omega⟩ := Fin.ext (by
  rw [peer_val]; show (0 + r + 1) % 32 = r + 1; omega)
theorem sn_pos {r : ℕ} (h : r < 31) : 0 < (sn r).val := by rw [sn_eq h]; exact Nat.succ_pos r

/-- All cells of all devices follow the plan, under the names `K`, and are at their first round. -/
def records (K : Dev nD × Slot → ℕ) : sProp 𝕄 :=
  bigSep Finset.univ fun ck => iprop(cellInv ER (plan m ρ) (K ck) (kcell ck) ∗ reached ER (kcell ck) 0)

instance records_persistent (K : Dev nD × Slot → ℕ) : BI.Persistent (records (F := F) m ρ K) := by
  unfold records; infer_instance

theorem records_at (K : Dev nD × Slot → ℕ) (ck : Dev nD × Slot) :
    records (F := F) m ρ K ⊢ iprop(cellInv ER (plan m ρ) (K ck) (kcell ck) ∗ reached ER (kcell ck) 0) := by
  unfold records; exact bigSep_elim (Finset.mem_univ ck)

/-- What everybody knows. -/
def known (K : Dev nD × Slot → ℕ) : sProp 𝕄 := iprop(records m ρ K ∗ levAts L lv)

instance known_persistent (K : Dev nD × Slot → ℕ) : BI.Persistent (known (F := F) m ρ K) := by unfold known; infer_instance

theorem known_at (K : Dev nD × Slot → ℕ) (ck : Dev nD × Slot) :
    known (F := F) m ρ K ⊢ iprop(cellInv ER (plan m ρ) (K ck) (kcell ck) ∗ reached ER (kcell ck) 0) := by
  unfold known; exact sep_elim_left.trans (records_at m ρ K ck)

variable (K : Dev nD × Slot → ℕ) (c : Dev nD)

/-- The wait for the barrier is allowed. -/
theorem known_may : known (F := F) m ρ K ⊢ MayWait (c : Thread nD τ) (.reg barS) () (owedSend c 0) := by
  unfold known
  exact sep_elim_right.trans (mayWait_bar c)

/-! ## Raising the barriers -/

/-- `n` of the other devices have been told that this one's buffer is there. -/
def Told (n : ℕ) : sProp 𝕄 :=
  iprop(known m ρ K ∗ (∃ W, owes (c : Thread nD τ) (owedSend c 0 + owedBar c n) W)
    ∗ bigSep (Finset.Ico n 31) fun r => iprop(dutyTok ER (barCell (peer c r)) 0 c ∗ ∃ f, colPts c (peer c r) f))

/-- One signal: the device tells its next peer that the columns for that peer are there. -/
theorem tell {n : ℕ} (hn : n < 31) {dv : Dev nD} (hdv : dv = peer c n) {k' : ℕ} (hk : 1 = k') {α : Type} {Q : α → sProp 𝕄} (R : sProp 𝕄)
    {k : PUnit → Prog (TpuEff nD τ sig (Elt F) Λ₀ .tc) α}
    (h : iprop(R ∗ Told m ρ K c (n + 1)) ⊢ wp frame (wpE (defs₀ (F := F)) 𝒱₀ (c : Thread nD τ) none) Set.univ (k ⟨⟩) Q) :
    iprop(R ∗ Told m ρ K c n) ⊢ wp frame (wpE (defs₀ (F := F)) 𝒱₀ (c : Thread nD τ) none) Set.univ
      (.op (.semSignal (dv : Thread nD τ) barS k') k) Q := by
  subst hdv hk
  unfold Told at h ⊢
  rw [bigSep_Ico_succ_bot hn]
  iintro ⟨HR, #HK, ⟨%W, HO⟩, ⟨Ht, Hc⟩, Hrest⟩
  ihave #Hcell := (known_at m ρ K (peer c n, .inl ())) $$ HK
  icases Hcell with ⟨#HI, #Hr⟩
  iapply (Rounds.wp_signal 𝒱₀ ER (plan m ρ) (c : Thread nD τ) none (dst := (peer c n : Thread nD τ)) (sem := barS) (κ := K (peer c n, .inl ()))
      (r := 0) (d := c) (by rw [duties_zero]; exact Finset.mem_erase.mpr ⟨(peer_ne c hn).symm, Finset.mem_univ _⟩) (k' := 1) rfl ()
      (O₀ := owedSend c 0 + owedBar c n) (owedSend c 0 + owedBar c (n + 1)) (by rw [owedBar_step c hn, add_assoc])) $$ [HO Ht Hc]
  · isplitr; · iexact HI
    isplitl [HO]; · iexact HO
    isplitl [Ht]; · iexact Ht
    isplitl [Hc]; · iapply (Entails.of_eq (payload_bar m ρ (peer c n) c).symm); iexact Hc
    iexact Hr
  iintro HO
  iapply h
  isplitl [HR]; · iexact HR
  isplitr; · iexact HK
  isplitl [HO]; · iexists W; iexact HO
  iexact Hrest

/-- The wait for the own barrier: everybody else's buffer is there. -/
theorem heard {k' : ℕ} (hk : 31 = k') {α : Type} {Q : α → sProp 𝕄} (R : sProp 𝕄)
    {k : PUnit → Prog (TpuEff nD τ sig (Elt F) Λ₀ .tc) α}
    (h : iprop(R ∗ known m ρ K ∗ (∃ W, owes (c : Thread nD τ) (owedSend c 0) W) ∗ atPos ER (barCell c) 1 ∅ 0
        ∗ bigSep (Finset.range 31) fun r => iprop(∃ f, colPts (peer c r) c f))
      ⊢ wp frame (wpE (defs₀ (F := F)) 𝒱₀ (c : Thread nD τ) none) Set.univ (k ⟨⟩) Q) :
    iprop((R ∗ cred (tallyAt (barCell c) () 31) ∗ atPos ER (barCell c) 0 ∅ 0) ∗ Told m ρ K c 31)
      ⊢ wp frame (wpE (defs₀ (F := F)) 𝒱₀ (c : Thread nD τ) none) Set.univ (.op (.semWait barS k') k) Q := by
  subst hk
  unfold Told
  rw [owedBar_end, add_zero]
  iintro ⟨⟨HR, Hc, Hat⟩, #HK, ⟨%W, HO⟩, -⟩
  ihave #Hcell := (known_at m ρ K (c, .inl ())) $$ HK
  icases Hcell with ⟨#HI, #Hr⟩
  iapply (Rounds.wp_wait_rest_token 𝒱₀ ER (plan m ρ) (c : Thread nD τ) none (κ := K (c, .inl ()))
      (wpE_semWait_eq 𝒱₀ (c : Thread nD τ) none Set.univ) (Set.mem_univ _) () (O := owedSend c 0) (W := W) (R := 0) (m := 0) (T := ∅)
      (by rw [expect_bar, zero_add])) $$ [Hc HO Hat]
  · isplitr; · iexact HI
    isplitl [Hc]; · iexact Hc
    isplitl [HO]; · iexact HO
    isplitr; · iapply (known_may m ρ K c); iexact HK
    iexact Hat
  iintro ⟨HO, Hat, -, Hpay⟩
  ihave Hp := (Entails.of_eq (rest_bar m ρ c)) $$ Hpay
  iapply h
  isplitl [HR]; · iexact HR
  isplitr; · iexact HK
  isplitl [HO]; · iexists _; iexact HO
  isplitl [Hat]; · iexact Hat
  iexact Hp

/-! ## Sending the blocks -/

/-- `n` blocks are on their way. -/
def Sent (n : ℕ) : sProp 𝕄 :=
  iprop(known m ρ K ∗ (∃ W, owes (c : Thread nD τ) (owedSend c n) W)
    ∗ bigSep (Finset.Ico n 31) (fun r => iprop((dutyTok ER (sendCell c (sn r)) 0 c ∗ dutyTok ER (recvCell (peer c r) c) 0 c)
        ∗ (∃ f, colPts (peer c r) c f) ∗ rowPts c (peer c r) (xs m ρ c)))
    ∗ bigSep (Finset.range n) fun r => cred (tallyAt (sendCell c (sn r)) () N))

/-- One send: the block for the next peer leaves, and the right to its columns there goes with it. -/
theorem send {n : ℕ} (hn : n < 31) {dv : Dev nD} (hdv : dv = peer c n) {sS sR : DmaSem sig} (hS : sS = sendQ (sn n)) (hR : sR = recvQ c)
    {src : Memref sig .tc .vmem S128x128 .fp8e4m3} {dst : Memref sig (Dev.tc dv : Thread nD τ).2.kind .vmem S128x128 .fp8e4m3}
    (hsrc' : src = rowM (peer c n)) (hdst' : dst = colM c) {hsc : dst.view.ref.isScScratch = false}
    {hsrc : src.view.WordExact} {hdst : dst.view.WordExact}
    {hsem : DmaTarget.Typed .vmem (.dma sR) (.remote (Dev.tc dv : Thread nD τ) dst (.dma sS) hsc)}
    {α : Type} {Q : α → sProp 𝕄} (R : sProp 𝕄) {k : PUnit → Prog (TpuEff nD τ sig (Elt F) Λ₀ .tc) α}
    (h : iprop(R ∗ Sent m ρ K c (n + 1)) ⊢ wp frame (wpE (defs₀ (F := F)) 𝒱₀ (c : Thread nD τ) none) Set.univ (k ⟨⟩) Q) :
    iprop(R ∗ Sent m ρ K c n) ⊢ wp frame (wpE (defs₀ (F := F)) 𝒱₀ (c : Thread nD τ) none) Set.univ
      (.op (.enqueueDma src (.remote (Dev.tc dv : Thread nD τ) dst (.dma sS) hsc) (.dma sR) hsrc hdst hsem) k) Q := by
  subst hdv hS hR hsrc' hdst'
  unfold Sent at h ⊢
  rw [bigSep_range_succ] at h
  rw [bigSep_Ico_succ_bot hn]
  iintro ⟨HR, #HK, ⟨%W, HO⟩, ⟨⟨⟨HtS, HtR⟩, ⟨%f, Hcol⟩, Hrow⟩, Hrest⟩, Hgot⟩
  ihave #HcS := (known_at m ρ K (c, .inr (.inl (sn n)))) $$ HK
  ihave #HcR := (known_at m ρ K (peer c n, .inr (.inr c))) $$ HK
  icases HcS with ⟨#HIS, #HrS⟩
  icases HcR with ⟨#HIR, #HrR⟩
  unfold rowPts colPts
  iapply (Rounds.wp_send_pointsTo 𝒱₀ ER (plan m ρ) (c : Thread nD τ) none (κ₁ := K (c, .inr (.inl (sn n)))) (κ₂ := K (peer c n, .inr (.inr c)))
      (r₁ := 0) (r₂ := 0) (d₁ := c) (d₂ := c) (fd := f)
      (by rw [duties_zero, payers_send c (sn_pos hn)]; exact Finset.mem_singleton_self _)
      (by rw [duties_zero, payers_recv (peer c n) (peer_ne c hn).symm]; exact Finset.mem_singleton_self _)
      () () N (by exact credit_col c) (amount_dma m ρ c _ c) (amount_dma m ρ (peer c n) _ c) (owedSend c (n + 1)) (owedSend_step c hn) (W := W)
      (by rw [payload_dma, sn_eq hn, handed_send m ρ c c hn]; exact BI.Entails.refl _)
      (by rw [payload_dma, handed_recv]; exact Entails.of_eq (col_landed m ρ c (peer c n) f)))
    $$ [HO HtS HtR Hcol Hrow]
  · isplitr; · iexact HIS
    isplitr; · iexact HIR
    isplitl [Hrow]; · iexact Hrow
    isplitl [Hcol]; · iexact Hcol
    isplitl [HO]; · iexact HO
    isplitl [HtS]; · iexact HtS
    isplitr; · iexact HrS
    isplitl [HtR]; · iexact HtR
    iexact HrR
  iintro ⟨Hcr, HO⟩
  iapply h
  isplitl [HR]; · iexact HR
  isplitr; · iexact HK
  isplitl [HO]; · iexists W; iexact HO
  isplitl [Hrest]; · iexact Hrest
  isplitl [Hcr] <;> iassumption

/-! ## Waiting for the blocks that come -/

/-- `n` blocks have arrived. -/
def Came (n : ℕ) : sProp 𝕄 :=
  iprop(known m ρ K ∗ (∃ W, owes (c : Thread nD τ) 0 W)
    ∗ bigSep (Finset.Ico n 31) (fun r => iprop(cred (tallyAt (recvCell c (peer c r)) () N) ∗ atPos ER (recvCell c (peer c r)) 0 ∅ 0))
    ∗ bigSep (Finset.range n) fun r => iprop(atPos ER (recvCell c (peer c r)) 1 ∅ 0 ∗ colPts c (peer c r) (xg m ρ c)))

/-- One wait for an arrival: the next peer's block is in its columns. -/
theorem come {n : ℕ} (hn : n < 31) {sR : DmaSem sig} (hR : sR = recvQ (peer c n))
    {src dst : Memref sig .tc .vmem S128x128 .fp8e4m3} (hN : dst.view.dmaCredit = N) {hsrc : src.view.WordExact} {hdst : dst.view.WordExact}
    {α : Type} {Q : α → sProp 𝕄} (R : sProp 𝕄) {k : PUnit → Prog (TpuEff nD τ sig (Elt F) Λ₀ .tc) α}
    (h : iprop(R ∗ Came m ρ K c (n + 1)) ⊢ wp frame (wpE (defs₀ (F := F)) 𝒱₀ (c : Thread nD τ) none) Set.univ (k ⟨⟩) Q) :
    iprop(R ∗ Came m ρ K c n) ⊢ wp frame (wpE (defs₀ (F := F)) 𝒱₀ (c : Thread nD τ) none) Set.univ
      (.op (.waitDma2 sR src dst hsrc hdst) k) Q := by
  subst hR
  unfold Came at h ⊢
  rw [bigSep_range_succ] at h
  rw [bigSep_Ico_succ_bot hn]
  iintro ⟨HR, #HK, ⟨%W, HO⟩, ⟨⟨Hc, Hat⟩, Hrest⟩, Hgot⟩
  ihave #Hcell := (known_at m ρ K (c, .inr (.inr (peer c n)))) $$ HK
  icases Hcell with ⟨#HI, #Hr⟩
  iapply (Rounds.wp_wait_rest_token 𝒱₀ ER (plan m ρ) (c : Thread nD τ) none (κ := K (c, .inr (.inr (peer c n))))
      (wpE_waitDma2_eq 𝒱₀ (c : Thread nD τ) none Set.univ) (Set.mem_univ _) () (O := 0) (W := W) (R := 0) (m := 0) (T := ∅)
      (by rw [hN, zero_add, expect_recv m ρ c (peer_ne c hn)])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq (rest_recv m ρ c (peer_ne c hn))) $$ Hpay
  iapply h
  isplitl [HR]; · iexact HR
  isplitr; · iexact HK
  isplitl [HO]; · iexists _; iexact HO
  isplitl [Hrest]; · iexact Hrest
  isplitl [Hat Hp]; · isplitl [Hat] <;> iassumption
  iexact Hgot

/-! ## Waiting for the blocks that have left -/

/-- `n` blocks have left and their rows are free again. -/
def Left (n : ℕ) : sProp 𝕄 :=
  iprop(known m ρ K ∗ (∃ W, owes (c : Thread nD τ) 0 W)
    ∗ bigSep (Finset.Ico n 31) (fun r => iprop(cred (tallyAt (sendCell c (sn r)) () N) ∗ atPos ER (sendCell c (sn r)) 0 ∅ 0))
    ∗ bigSep (Finset.range n) fun r => iprop(atPos ER (sendCell c (sn r)) 1 ∅ 0 ∗ rowPts c (peer c r) (xs m ρ c)))

/-- One wait for a departure: the rows sent to the next peer are the device's own again. -/
theorem leave {n : ℕ} (hn : n < 31) {sS : DmaSem sig} (hS : sS = sendQ (sn n))
    {src dst : Memref sig .tc .vmem S128x128 .fp8e4m3} (hN : dst.view.dmaCredit = N) {hsrc : src.view.WordExact} {hdst : dst.view.WordExact}
    {α : Type} {Q : α → sProp 𝕄} (R : sProp 𝕄) {k : PUnit → Prog (TpuEff nD τ sig (Elt F) Λ₀ .tc) α}
    (h : iprop(R ∗ Left m ρ K c (n + 1)) ⊢ wp frame (wpE (defs₀ (F := F)) 𝒱₀ (c : Thread nD τ) none) Set.univ (k ⟨⟩) Q) :
    iprop(R ∗ Left m ρ K c n) ⊢ wp frame (wpE (defs₀ (F := F)) 𝒱₀ (c : Thread nD τ) none) Set.univ
      (.op (.waitDma2 sS src dst hsrc hdst) k) Q := by
  subst hS
  unfold Left at h ⊢
  rw [bigSep_range_succ] at h
  rw [bigSep_Ico_succ_bot hn]
  iintro ⟨HR, #HK, ⟨%W, HO⟩, ⟨⟨Hc, Hat⟩, Hrest⟩, Hgot⟩
  ihave #Hcell := (known_at m ρ K (c, .inr (.inl (sn n)))) $$ HK
  icases Hcell with ⟨#HI, #Hr⟩
  have hpay : bigSep ((plan (F := F) m ρ).duties (sendCell c (sn n)) 0 \ ∅) (fun d => (plan (F := F) m ρ).payload (sendCell c (sn n)) 0 d)
      = rowPts c (peer c n) (xs m ρ c) := by rw [sn_eq hn]; exact rest_send m ρ c hn
  iapply (Rounds.wp_wait_rest_token 𝒱₀ ER (plan m ρ) (c : Thread nD τ) none (κ := K (c, .inr (.inl (sn n))))
      (wpE_waitDma2_eq 𝒱₀ (c : Thread nD τ) none Set.univ) (Set.mem_univ _) () (O := 0) (W := W) (R := 0) (m := 0) (T := ∅)
      (by rw [hN, zero_add, expect_send m ρ c (sn_pos hn)])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hp := (Entails.of_eq hpay) $$ Hpay
  iapply h
  isplitl [HR]; · iexact HR
  isplitr; · iexact HK
  isplitl [HO]; · iexists _; iexact HO
  isplitl [Hrest]; · iexact Hrest
  isplitl [Hat Hp]; · isplitl [Hat] <;> iassumption
  iexact Hgot

end Cert.KernelIdeal.Exchange
-- ==== Proof.Exchange.lean ====
/-
The exchange from its first signal to its last wait: what a device starts it with, what it holds afterwards, and the
run of the kernel's text through the four runs of `Steps`, with the two copies the device makes itself.
-/
module

public import proofs.«01_k».proof.Proof.Steps

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Slot → ℕ) (c : Dev nD)

/-! ## Loads and stores beside a frame -/

theorem load_step {cs : CoreSpace} {s : Shape} {e : EltTy} {mr : Memref sig .tc cs s e} {r : LoadRect s} {hl : mr.view.LoadsAt r}
    {α : Type} {Q : α → sProp 𝕄} {k : (r.shape.Idx → Elt F e) → Prog (TpuEff nD τ sig (Elt F) Λ₀ .tc) α}
    {S : Finset (Idx (mr.view.loc (c : Thread nD τ)))} {f : Buf (Elt F) (mr.view.loc (c : Thread nD τ))}
    (hS : mr.view.setOn r.set ⊆ S) (R : sProp 𝕄)
    (h : iprop(R ∗ (mr.view.loc (c : Thread nD τ) ↦[S]{fullShare} f))
      ⊢ wp frame (wpE (defs₀ (F := F)) 𝒱₀ (c : Thread nD τ) none) Set.univ (k (mr.view.readAt (Elt F) r f)) Q) :
    iprop(R ∗ (mr.view.loc (c : Thread nD τ) ↦[S]{fullShare} f))
      ⊢ wp frame (wpE (defs₀ (F := F)) 𝒱₀ (c : Thread nD τ) none) Set.univ (.op (.load mr r hl) k) Q := by
  iintro ⟨HR, H⟩
  iapply (wp_load 𝒱₀ (c : Thread nD τ) none Set.univ (m := mr) hS) $$ H
  iintro H
  iapply h
  isplitl [HR] <;> iassumption

theorem store_step {cs : CoreSpace} {s : Shape} {e : EltTy} {mr : Memref sig .tc cs s e} {r : Rect s} {w : r.shape.Idx → Elt F e}
    {hx : (mr.access r).Stores Finset.univ} {hm : Finset.univ = Finset.univ ∨ ∀ a, r.stride a = 1}
    {α : Type} {Q : α → sProp 𝕄} {k : PUnit → Prog (TpuEff nD τ sig (Elt F) Λ₀ .tc) α}
    {S : Finset (Idx ((mr.access r).loc (c : Thread nD τ)))} {f : Buf (Elt F) ((mr.access r).loc (c : Thread nD τ))}
    (hS : (mr.access r).setOn Finset.univ ⊆ S) (R : sProp 𝕄)
    (h : iprop(R ∗ ((mr.access r).loc (c : Thread nD τ) ↦[S]{fullShare} ((mr.access r).write (Elt F) f w Finset.univ)))
      ⊢ wp frame (wpE (defs₀ (F := F)) 𝒱₀ (c : Thread nD τ) none) Set.univ (k ⟨⟩) Q) :
    iprop(R ∗ ((mr.access r).loc (c : Thread nD τ) ↦[S]{fullShare} f))
      ⊢ wp frame (wpE (defs₀ (F := F)) 𝒱₀ (c : Thread nD τ) none) Set.univ (.op (.store mr r w Finset.univ hx hm) k) Q := by
  iintro ⟨HR, H⟩
  iapply (wp_store 𝒱₀ (c : Thread nD τ) none Set.univ (m := mr) (r := r) (Mk := Finset.univ) hS) $$ H
  iintro H
  iapply h
  isplitl [HR] <;> iassumption

/-! ## The two copies a device makes itself -/

theorem zero2 : (![0, 0] : Fin 2 → Nat) = fun _ => 0 := funext fun a => by fin_cases a <;> rfl

abbrev allX : Rect S4096x128 := Rect.unit (s := S4096x128) ![0, 0] S4096x128.size inb_S4096x128_S4096x128_0_0

/-- The columns as they were handed in go to the buffer the blocks leave from. -/
theorem copy_in {hl hl'} {hx} {hm}
    {α : Type} {Q : α → sProp 𝕄} {k : PUnit → Prog (TpuEff nD τ sig (Elt F) Λ₀ .tc) α} (R : sProp 𝕄)
    (h : iprop(R ∗ (((c : Thread nD τ).loc cc0_stg0_0) ↦{fullShare} xs m ρ c) ∗ (((c : Thread nD τ).loc cc0_scratch0) ↦{fullShare} xs m ρ c))
      ⊢ wp frame (wpE (defs₀ (F := F)) 𝒱₀ (c : Thread nD τ) none) Set.univ (k ⟨⟩) Q) :
    iprop(R ∗ (((c : Thread nD τ).loc cc0_stg0_0) ↦{fullShare} xs m ρ c)
        ∗ (∃ f : Buf (Elt F) ((c : Thread nD τ).loc cc0_scratch0), ((c : Thread nD τ).loc cc0_scratch0) ↦{fullShare} f))
      ⊢ wp frame (wpE (defs₀ (F := F)) 𝒱₀ (c : Thread nD τ) none) Set.univ
        (.op (.load (Memref.whole cc0_stg0_0 : Memref sig .tc .vmem S4096x128 .fp8e4m3) allX.toLoadRect hl) fun v =>
          .op (.load (Memref.whole cc0_scratch0 : Memref sig .tc .vmem S4096x128 .fp8e4m3) allX.toLoadRect hl') fun _ =>
            .op (.store (Memref.whole cc0_scratch0 : Memref sig .tc .vmem S4096x128 .fp8e4m3) allX (k0_pay4 v) Finset.univ hx hm) k) Q := by
  iintro ⟨HR, HX, %f, HS⟩
  iapply (wp_load 𝒱₀ (c : Thread nD τ) none Set.univ (m := (Memref.whole cc0_stg0_0 : Memref sig .tc .vmem S4096x128 .fp8e4m3)) (Finset.subset_univ _)) $$ HX
  iintro HX
  iapply (wp_load 𝒱₀ (c : Thread nD τ) none Set.univ (m := (Memref.whole cc0_scratch0 : Memref sig .tc .vmem S4096x128 .fp8e4m3)) (Finset.subset_univ _)) $$ HS
  iintro HS
  iapply (wp_store 𝒱₀ (c : Thread nD τ) none Set.univ (m := (Memref.whole cc0_scratch0 : Memref sig .tc .vmem S4096x128 .fp8e4m3)) (r := allX)
    (Mk := Finset.univ) (Finset.subset_univ _)) $$ HS
  iintro HS
  have e : ((Memref.whole cc0_scratch0 : Memref sig .tc .vmem S4096x128 .fp8e4m3).access allX).write (Elt F) f
      (k0_pay4 ((Memref.whole cc0_stg0_0 : Memref sig .tc .vmem S4096x128 .fp8e4m3).view.readAt (Elt F) allX.toLoadRect (xs m ρ c))) Finset.univ = xs m ρ c := by
    refine (Memref.write_access_unit_zero_univ (Elt F) cc0_scratch0 zero2 _ f _).trans ?_
    unfold k0_pay4; dsimp only; simp only [shapeCast_self]
    exact Memref.readAt_unit_zero (Elt F) cc0_stg0_0 zero2 _ _
  rw [e]
  iapply h
  isplitl [HR]; · iexact HR
  isplitl [HX] <;> iassumption

/-- The device's own block goes from the one buffer to the other. -/
theorem copy_own {o o' : Fin 2 → ℕ} (ho : o = ![128 * c.val, 0]) (ho' : o' = ![0, 128 * c.val]) {i i' i''} {hl hl'} {hx} {hm}
    {α : Type} {Q : α → sProp 𝕄} {k : PUnit → Prog (TpuEff nD τ sig (Elt F) Λ₀ .tc) α} (R : sProp 𝕄)
    (h : iprop(R ∗ rowPts c c (xs m ρ c) ∗ colPts c c (xg m ρ c))
      ⊢ wp frame (wpE (defs₀ (F := F)) 𝒱₀ (c : Thread nD τ) none) Set.univ (k ⟨⟩) Q) :
    iprop(R ∗ rowPts c c (xs m ρ c) ∗ (∃ f, colPts c c f))
      ⊢ wp frame (wpE (defs₀ (F := F)) 𝒱₀ (c : Thread nD τ) none) Set.univ
        (.op (.load (Memref.whole cc0_scratch0 : Memref sig .tc .vmem S4096x128 .fp8e4m3) (Rect.unit (s := S4096x128) o S128x128.size i).toLoadRect hl) fun v =>
          .op (.load (Memref.whole cc0_scratch1 : Memref sig .tc .vmem S128x4096 .fp8e4m3) (Rect.unit (s := S128x4096) o' S128x128.size i').toLoadRect hl') fun _ =>
            .op (.store (Memref.whole cc0_scratch1 : Memref sig .tc .vmem S128x4096 .fp8e4m3) (Rect.unit (s := S128x4096) o' S128x128.size i'') (k0_pay5 v) Finset.univ hx hm) k) Q := by
  subst ho ho'
  unfold rowPts
  iintro ⟨HR, HX, %f, HS⟩
  unfold colPts
  iapply (wp_load_rect 𝒱₀ (c : Thread nD τ) none Set.univ (m := (Memref.whole cc0_scratch0 : Memref sig .tc .vmem S4096x128 .fp8e4m3)) (r := rowR c)
    (Finset.Subset.refl _)) $$ HX
  iintro HX
  iapply (wp_load_rect 𝒱₀ (c : Thread nD τ) none Set.univ (m := (Memref.whole cc0_scratch1 : Memref sig .tc .vmem S128x4096 .fp8e4m3)) (r := colR c)
    (Finset.Subset.refl _)) $$ HS
  iintro HS
  iapply (wp_store 𝒱₀ (c : Thread nD τ) none Set.univ (m := (Memref.whole cc0_scratch1 : Memref sig .tc .vmem S128x4096 .fp8e4m3)) (r := colR c)
    (Mk := Finset.univ) (by rw [View.setOn_univ])) $$ HS
  iintro HS
  iapply h
  isplitl [HR]; · iexact HR
  isplitl [HX]; · unfold rowPts; iexact HX
  iapply (Entails.of_eq (col_own m ρ c f))
  iexact HS

/-! ## Before and after -/

/-- The positions at the send cells in use, and at the receive cells. -/
abbrev posS (k : ℕ) : sProp 𝕄 := bigSep (Finset.range 31) fun r => atPos ER (sendCell c (sn r)) k ∅ 0
abbrev posR (k : ℕ) : sProp 𝕄 := bigSep (Finset.range 31) fun r => atPos ER (recvCell c (peer c r)) k ∅ 0
/-- What the send cells and the receive cells are owed. -/
abbrev credS : sProp 𝕄 := bigSep (Finset.range 31) fun r => cred (tallyAt (sendCell c (sn r)) () N)
abbrev credR : sProp 𝕄 := bigSep (Finset.range 31) fun r => cred (tallyAt (recvCell c (peer c r)) () N)
/-- The right to pay for the blocks sent, at both ends. -/
abbrev payS : sProp 𝕄 := bigSep (Finset.range 31) fun r => iprop(dutyTok ER (sendCell c (sn r)) 0 c ∗ dutyTok ER (recvCell (peer c r) c) 0 c)

/-- What the launch gives device `c`: its positions, and the right to pay what it will pay. -/
def ghost : sProp 𝕄 :=
  iprop(known m ρ K
    ∗ (bigSep (Finset.range 31) fun r => dutyTok ER (barCell (peer c r)) 0 c)
    ∗ payS c
    ∗ atPos ER (barCell c) 0 ∅ 0
    ∗ (atPos ER (sendCell c 0) 0 ∅ 0 ∗ posS c 0)
    ∗ (atPos ER (recvCell c c) 0 ∅ 0 ∗ posR c 0))

/-- What the others owe device `c`. -/
def dues : sProp 𝕄 :=
  iprop(cred (tallyAt (barCell c) () 31) ∗ credR c)

/-- The cells of device `c`, closed and at zero. -/
def quiet : sProp 𝕄 :=
  iprop(semVal (barCell c) 0 ∗ (bigSep Finset.univ fun n : Fin 32 => semVal (sendCell c n) 0)
    ∗ bigSep Finset.univ fun s : Dev nD => semVal (recvCell c s) 0)

theorem close_cell (ck : Dev nD × Slot) (k : ℕ) (hk : ∀ r, k ≤ r → (plan (F := F) m ρ).duties (kcell ck) r = ∅) :
    iprop(known m ρ K ∗ atPos ER (kcell ck) k ∅ 0) ⊢ iprop(|={Set.univ}=> semVal (kcell ck) 0) := by
  iintro ⟨#HK, Hat⟩
  ihave #Hc := (known_at m ρ K ck) $$ HK
  icases Hc with ⟨#HI, -⟩
  iapply (Rounds.cell_close ER (plan m ρ) (Set.mem_univ (K ck)) (fun h => h) (R := k) hk)
  isplitr; · iexact HI
  iexact Hat

theorem close_cells {I : Type} [DecidableEq I] (S : Finset I) (g : I → Dev nD × Slot) (k : ℕ)
    (hk : ∀ i ∈ S, ∀ r, k ≤ r → (plan (F := F) m ρ).duties (kcell (g i)) r = ∅) :
    iprop(known m ρ K ∗ bigSep S fun i => atPos ER (kcell (g i)) k ∅ 0) ⊢ |={Set.univ}=> (bigSep S fun i => semVal (kcell (g i)) 0 : sProp 𝕄) := by
  refine ((sep_mono_left (BI.bigSep_of_persistent S (known (F := F) m ρ K))).trans ?_).trans (bigSep_fupd _ _)
  rw [← bigSep_sep']
  exact bigSep_mono fun i hi => close_cell m ρ K (g i) k (hk i hi)

theorem unused {g : GSem nD τ sig} (h : (plan (F := F) m ρ).duties g 0 = ∅) : ∀ r, 0 ≤ r → (plan (F := F) m ρ).duties g r = ∅ := fun r _ => by
  rcases Nat.eq_zero_or_pos r with rfl | hr
  · exact h
  · exact duties_later m ρ g r hr

/-- Every cell of a device that has done its round can be closed. -/
theorem close_all :
    iprop(known m ρ K ∗ atPos ER (barCell c) 1 ∅ 0
        ∗ (atPos ER (sendCell c 0) 0 ∅ 0 ∗ posS c 1)
        ∗ (atPos ER (recvCell c c) 0 ∅ 0 ∗ posR c 1))
      ⊢ iprop(|={Set.univ}=> quiet c) := by
  have e₁ : (bigSep Finset.univ fun n : Fin 32 => (semVal (sendCell c n) 0 : sProp 𝕄))
      = iprop(semVal (sendCell c 0) 0 ∗ bigSep (Finset.range 31) fun r => semVal (sendCell c (sn r)) 0) := by
    rw [bigSep_univ_split (0 : Fin 32)]
    exact congrArg _ (others_eq (0 : Dev nD) fun n => (semVal (sendCell c n) 0 : sProp 𝕄))
  have e₂ : (bigSep Finset.univ fun s : Dev nD => (semVal (recvCell c s) 0 : sProp 𝕄))
      = iprop(semVal (recvCell c c) 0 ∗ bigSep (Finset.range 31) fun r => semVal (recvCell c (peer c r)) 0) := by
    rw [bigSep_univ_split c]
    exact congrArg _ (others_eq c fun s => (semVal (recvCell c s) 0 : sProp 𝕄))
  unfold quiet
  rw [e₁, e₂]
  iintro ⟨#HK, HB, ⟨HS0, HS⟩, HR0, HR⟩
  imod (close_cell m ρ K (c, .inl ()) 1 (duties_later m ρ _)) $$ [HB] with HB
  · isplitr; · iexact HK
    iexact HB
  imod (close_cell m ρ K (c, .inr (.inl 0)) 0 (unused m ρ (by rw [duties_zero]; exact payers_send_zero c))) $$ [HS0] with HS0
  · isplitr; · iexact HK
    iexact HS0
  imod (close_cell m ρ K (c, .inr (.inr c)) 0 (unused m ρ (by rw [duties_zero]; exact payers_recv_self c))) $$ [HR0] with HR0
  · isplitr; · iexact HK
    iexact HR0
  imod (close_cells m ρ K (Finset.range 31) (fun r => (c, .inr (.inl (sn r)))) 1 fun i _ => duties_later m ρ _) $$ [HS] with HS
  · isplitr; · iexact HK
    iexact HS
  imod (close_cells m ρ K (Finset.range 31) (fun r => (c, .inr (.inr (peer c r)))) 1 fun i _ => duties_later m ρ _) $$ [HR] with HR
  · isplitr; · iexact HK
    iexact HR
  imodintro
  isplitl [HB]; · iexact HB
  isplitl [HS0 HS]; · isplitl [HS0] <;> iassumption
  isplitl [HR0] <;> iassumption

/-! ## The run -/

/-- What a device holds when it starts the exchange. -/
def before : sProp 𝕄 :=
  iprop(ghost m ρ K c ∗ dues c ∗ (∃ W, owes (c : Thread nD τ) (O₀ c) W) ∗ (((c : Thread nD τ).loc cc0_stg0_0) ↦{fullShare} xs m ρ c)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What it holds when it has waited for everything. -/
def after : sProp 𝕄 :=
  iprop(quiet c ∗ (∃ W, owes (c : Thread nD τ) 0 W) ∗ (((c : Thread nD τ).loc cc0_stg0_0) ↦{fullShare} xs m ρ c)
    ∗ (((c : Thread nD τ).loc cc0_scratch0) ↦{fullShare} xs m ρ c) ∗ (((c : Thread nD τ).loc cc0_scratch1) ↦{fullShare} xg m ρ c))

theorem col_some (p s : Dev nD) (f : S128x4096.Idx → Elt F .fp8e4m3) : colPts p s f ⊢ (iprop(∃ f, colPts p s f) : sProp 𝕄) := by
  iintro H; iexists f; iexact H

/-- The buffer the blocks arrive in, at whatever it holds: the own block and those of the peers. -/
theorem cols_any : iprop(∃ f : Buf (Elt F) ((c : Thread nD τ).loc cc0_scratch1), ((c : Thread nD τ).loc cc0_scratch1) ↦{fullShare} f)
    ⊢ (iprop((∃ f, colPts c c f) ∗ bigSep (Finset.range 31) fun r => iprop(∃ f, colPts c (peer c r) f)) : sProp 𝕄) := by
  iintro ⟨%f, H⟩
  ihave H := (Entails.of_eq (cols_eq c f)) $$ H
  icases H with ⟨H0, H⟩
  isplitl [H0]; · iexists f; iexact H0
  have e : (bigSep (Finset.range 31) fun r => (colPts c (peer c r) f : sProp 𝕄)) ⊢ bigSep (Finset.range 31) fun r => iprop(∃ f, colPts c (peer c r) f) :=
    bigSep_mono fun r _ => col_some c (peer c r) f
  iapply e; iexact H

/-- Before the first signal. -/
theorem told_zero (R : sProp 𝕄) : iprop(R ∗ before m ρ K c)
    ⊢ iprop(((R ∗ payS c
          ∗ (atPos ER (sendCell c 0) 0 ∅ 0 ∗ posS c 0)
          ∗ (atPos ER (recvCell c c) 0 ∅ 0 ∗ posR c 0)
          ∗ credR c
          ∗ (((c : Thread nD τ).loc cc0_stg0_0) ↦{fullShare} xs m ρ c)
          ∗ (∃ f : Buf (Elt F) ((c : Thread nD τ).loc cc0_scratch0), ((c : Thread nD τ).loc cc0_scratch0) ↦{fullShare} f)
          ∗ ∃ f, colPts c c f)
        ∗ cred (tallyAt (barCell c) () 31) ∗ atPos ER (barCell c) 0 ∅ 0) ∗ Told m ρ K c 0) := by
  unfold before ghost dues Told O₀
  rw [bigSep_sep' (Finset.Ico 0 31), Nat.Ico_zero_eq_range]
  iintro ⟨HR, ⟨#HK, HtB, HtS, HaB, HaS, HaR⟩, ⟨HcB, HcR⟩, HO, HX, H0, H1⟩
  ihave H1 := (cols_any c) $$ H1
  icases H1 with ⟨H10, H1⟩
  isplitr [HtB HO H1]
  · isplitr [HcB HaB]
    · isplitl [HR]; · iexact HR
      isplitl [HtS]; · iexact HtS
      isplitl [HaS]; · iexact HaS
      isplitl [HaR]; · iexact HaR
      isplitl [HcR]; · iexact HcR
      isplitl [HX]; · iexact HX
      isplitl [H0] <;> iassumption
    isplitl [HcB] <;> iassumption
  isplitr; · iexact HK
  isplitl [HO]; · iexact HO
  isplitl [HtB] <;> iassumption

/-- Before the first block is sent: the peers' columns are there and the rows are cut into blocks. -/
theorem sent_zero (R A : sProp 𝕄) :
    iprop((R ∗ payS c ∗ A ∗ known m ρ K ∗ (∃ W, owes (c : Thread nD τ) (owedSend c 0) W)
          ∗ bigSep (Finset.range 31) fun r => iprop(∃ f, colPts (peer c r) c f))
        ∗ (((c : Thread nD τ).loc cc0_stg0_0) ↦{fullShare} xs m ρ c) ∗ (((c : Thread nD τ).loc cc0_scratch0) ↦{fullShare} xs m ρ c))
      ⊢ iprop((R ∗ A ∗ (((c : Thread nD τ).loc cc0_stg0_0) ↦{fullShare} xs m ρ c) ∗ rowPts c c (xs m ρ c)) ∗ Sent m ρ K c 0) := by
  unfold Sent
  rw [bigSep_sep' (Finset.Ico 0 31), bigSep_sep' (Finset.Ico 0 31) (fun r => iprop(∃ f, colPts (peer c r) c f)) fun r => rowPts c (peer c r) (xs m ρ c),
    Nat.Ico_zero_eq_range, Finset.range_zero, bigSep_empty, rows_eq]
  iintro ⟨⟨HR, HT, HA, #HK, HO, HC⟩, HX, Hr, Hrows⟩
  isplitl [HR HA HX Hr]
  · isplitl [HR]; · iexact HR
    isplitl [HA]; · iexact HA
    isplitl [HX] <;> iassumption
  isplitr; · iexact HK
  isplitl [HO]; · iexact HO
  isplitl [HT HC Hrows]
  · isplitl [HT]; · iexact HT
    isplitl [HC] <;> iassumption
  iempintro

/-- Before the first arrival. -/
theorem came_zero (R : sProp 𝕄) :
    iprop(R ∗ known m ρ K ∗ (∃ W, owes (c : Thread nD τ) 0 W) ∗ credR c
        ∗ posR c 0)
      ⊢ iprop(R ∗ Came m ρ K c 0) := by
  unfold Came
  rw [bigSep_sep' (Finset.Ico 0 31), Nat.Ico_zero_eq_range, Finset.range_zero, bigSep_empty]
  iintro ⟨HR, #HK, HO, HC, HA⟩
  isplitl [HR]; · iexact HR
  isplitr; · iexact HK
  isplitl [HO]; · iexact HO
  isplitl [HC HA]; · isplitl [HC] <;> iassumption
  iempintro

/-- Before the first departure is waited for. -/
theorem left_zero (R : sProp 𝕄) :
    iprop(R ∗ known m ρ K ∗ (∃ W, owes (c : Thread nD τ) 0 W) ∗ credS c
        ∗ posS c 0)
      ⊢ iprop(R ∗ Left m ρ K c 0) := by
  unfold Left
  rw [bigSep_sep' (Finset.Ico 0 31), Nat.Ico_zero_eq_range, Finset.range_zero, bigSep_empty]
  iintro ⟨HR, #HK, HO, HC, HA⟩
  isplitl [HR]; · iexact HR
  isplitr; · iexact HK
  isplitl [HO]; · iexact HO
  isplitl [HC HA]; · isplitl [HC] <;> iassumption
  iempintro

theorem sent_end : Sent m ρ K c 31
    ⊢ iprop(known m ρ K ∗ (∃ W, owes (c : Thread nD τ) 0 W) ∗ credS c) := by
  unfold Sent
  rw [owedSend_end]
  iintro ⟨#HK, HO, -, HC⟩
  isplitr; · iexact HK
  isplitl [HO] <;> iassumption

theorem came_end : Came m ρ K c 31
    ⊢ iprop(known m ρ K ∗ (∃ W, owes (c : Thread nD τ) 0 W) ∗ posR c 1
        ∗ bigSep (Finset.range 31) fun r => colPts c (peer c r) (xg m ρ c)) := by
  unfold Came
  rw [bigSep_sep' (Finset.range 31)]
  iintro ⟨#HK, HO, -, HA, HC⟩
  isplitr; · iexact HK
  isplitl [HO]; · iexact HO
  isplitl [HA] <;> iassumption

theorem left_end : Left m ρ K c 31
    ⊢ iprop(known m ρ K ∗ (∃ W, owes (c : Thread nD τ) 0 W) ∗ posS c 1
        ∗ bigSep (Finset.range 31) fun r => rowPts c (peer c r) (xs m ρ c)) := by
  unfold Left
  rw [bigSep_sep' (Finset.range 31)]
  iintro ⟨#HK, HO, -, HA, HC⟩
  isplitr; · iexact HK
  isplitl [HO]; · iexact HO
  isplitl [HA] <;> iassumption

theorem wp_end {P : sProp 𝕄} {α : Type} {a : α} {Q : α → sProp 𝕄} (h : P ⊢ Q a) :
    P ⊢ wp frame (wpE (defs₀ (F := F)) 𝒱₀ (c : Thread nD τ) none) Set.univ (.ret a) Q := by
  rw [wp_ret]; iintro H; imodintro; iapply h; iexact H

theorem sendSem_num {r : ℕ} (hr : r < 31) {o : Fin 1 → ℕ} (ho : o = ![r + 1]) (h) :
    ((cc0_scratch3.slice (Rect.unit (s := S32) o S1.size h)).squeeze S_ squeezes_S1_S_).sem = sendQ (sn r) :=
  sendSem_eq _ (by rw [sn_eq hr]; exact ho) h

theorem rowM_num {r : ℕ} (hr : r < 31) {b : BitVec 32} (hb : b = BitVec.ofNat 32 (1 + r)) (h) (h') :
    (Memref.whole cc0_scratch0).slice (Rect.unit (s := S4096x128) (k0_off3 c b) S128x128.size h) h' = rowM (peer c r) :=
  rowM_eq _ (by subst hb; exact k0_off3_eq c ⟨r, hr⟩) _ _

theorem recvSem_num {r : ℕ} (hr : r < 31) {b : BitVec 32} (hb : b = BitVec.ofNat 32 (1 + r)) (h) :
    ((cc0_scratch4.slice (Rect.unit (s := S32) (k0_off6 c b) S1.size h)).squeeze S_ squeezes_S1_S_).sem = recvQ (peer c r) :=
  recvSem_eq _ (by subst hb; exact k0_off6_eq c ⟨r, hr⟩) _

theorem credit_arrived {b : BitVec 32} (hb : ∃ r : Fin 31, b = BitVec.ofNat 32 (1 + r.val)) (h) (h') :
    ((Memref.whole cc0_scratch1).slice (Rect.unit (s := S128x4096) (k0_off7 c b) S128x128.size h) h').view.dmaCredit = N := by
  obtain ⟨r, rfl⟩ := hb
  rw [colM_eq (peer c r.val) (k0_off7_eq c r) h h']; exact credit_col _

theorem credit_left {b : BitVec 32} (hb : ∃ r : Fin 31, b = BitVec.ofNat 32 (1 + r.val)) (h) (h') :
    ((Memref.whole cc0_scratch0).slice (Rect.unit (s := S4096x128) (k0_off3 c b) S128x128.size h) h').view.dmaCredit = N := by
  obtain ⟨r, rfl⟩ := hb
  rw [rowM_num c r.isLt rfl h h']; exact credit_row _

section Text
variable (i : grid0.Coords) (h1 : k0_cond1 i = 1#1) (v2 : BitVec 32)
  (arg2 : Memref sig .tc .vmem S512x8192 .fp8e4m3) (harg2 : arg2.IsWhole) (arg3 : Memref sig .tc .smem S1 .f32) (harg3 : arg3.IsWhole)
  (arg4 : Memref sig .tc .smem S1 .f32) (harg4 : arg4.IsWhole) (arg5 : Memref sig .tc .vmem S128x8192 .f32) (harg5 : arg5.IsWhole)

/-- The whole exchange: from what a device holds before it to what it holds after it. -/
theorem exchange_run (R : sProp 𝕄) (Q : PUnit → sProp 𝕄) (h : iprop(R ∗ after m ρ c) ⊢ Q ⟨⟩) :
    iprop(R ∗ before m ρ K c) ⊢ wp frame (wpE (defs₀ (F := F)) 𝒱₀ (c : Thread nD τ) none) Set.univ
      (k0_part32 i (Memref.whole cc0_stg0_0) (Memref.isWhole_whole _) arg2 harg2 arg3 harg3 arg4 harg4 arg5 harg5 (Memref.whole cc0_scratch0) (Memref.isWhole_whole _)
        (Memref.whole cc0_scratch1) (Memref.isWhole_whole _) (Memref.whole cc0_scratch2) (Memref.isWhole_whole _) cc0_scratch3 cc0_scratch4 c v2 h1) Q := by
  refine (told_zero m ρ K c R).trans ?_
  iterate 31 refine tell m ρ K c (by decide) (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq]; rfl)) (by decide) _ ?_
  refine heard m ρ K c (by decide) _ ?_
  -- the columns go to the buffer the blocks leave from
  refine BI.Entails.trans (?_ : _ ⊢ iprop(((R ∗ (atPos ER (sendCell c 0) 0 ∅ 0 ∗ posS c 0) ∗ (atPos ER (recvCell c c) 0 ∅ 0 ∗ posR c 0) ∗ credR c
        ∗ ∃ f, colPts c c f) ∗ payS c ∗ atPos ER (barCell c) 1 ∅ 0 ∗ known m ρ K ∗ (∃ W, owes (c : Thread nD τ) (owedSend c 0) W)
        ∗ bigSep (Finset.range 31) fun r => iprop(∃ f, colPts (peer c r) c f))
      ∗ (((c : Thread nD τ).loc cc0_stg0_0) ↦{fullShare} xs m ρ c)
      ∗ (∃ f : Buf (Elt F) ((c : Thread nD τ).loc cc0_scratch0), ((c : Thread nD τ).loc cc0_scratch0) ↦{fullShare} f))) ?_
  · iintro ⟨⟨HR, HtS, HaS, HaR, HcR, HX, H0, H10⟩, #HK, HO, HaB, HC⟩
    isplitr [HX H0]
    · isplitr [HtS HO HaB HC]
      · isplitl [HR]; · iexact HR
        isplitl [HaS]; · iexact HaS
        isplitl [HaR]; · iexact HaR
        isplitl [HcR] <;> iassumption
      isplitl [HtS]; · iexact HtS
      isplitl [HaB]; · iexact HaB
      isplitr; · iexact HK
      isplitl [HO] <;> iassumption
    isplitl [HX] <;> iassumption
  refine copy_in m ρ c _ ?_
  -- the blocks are sent
  refine (sent_zero m ρ K c _ _).trans ?_
  iterate 31
    refine send m ρ K c (by decide) ?_ ?_ ?_ ?_ ?_ _ ?_
    · exact Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; rfl)
    · refine sendSem_num (by decide) ?_ _; rfl
    · refine recvSem_eq _ ?_ _; exact k0_off1_eq c
    · refine rowM_num c (by decide) ?_ _ _; rfl
    · refine colM_eq _ ?_ _ _; exact k0_off2_eq c
  -- the device copies its own block
  refine (sep_mono_right (sent_end m ρ K c)).trans ?_
  refine BI.Entails.trans (?_ : _ ⊢ iprop((R ∗ (atPos ER (sendCell c 0) 0 ∅ 0 ∗ posS c 0) ∗ (atPos ER (recvCell c c) 0 ∅ 0 ∗ posR c 0) ∗ credR c
        ∗ atPos ER (barCell c) 1 ∅ 0 ∗ (((c : Thread nD τ).loc cc0_stg0_0) ↦{fullShare} xs m ρ c)
        ∗ known m ρ K ∗ (∃ W, owes (c : Thread nD τ) 0 W) ∗ credS c)
      ∗ rowPts c c (xs m ρ c) ∗ ∃ f, colPts c c f)) ?_
  · iintro ⟨⟨⟨HR, HaS, HaR, HcR, H10⟩, HaB, HX, Hr⟩, #HK, HO, HcS⟩
    isplitr [Hr H10]
    · isplitl [HR]; · iexact HR
      isplitl [HaS]; · iexact HaS
      isplitl [HaR]; · iexact HaR
      isplitl [HcR]; · iexact HcR
      isplitl [HaB]; · iexact HaB
      isplitl [HX]; · iexact HX
      isplitr; · iexact HK
      isplitl [HO] <;> iassumption
    isplitl [Hr] <;> iassumption
  refine copy_own m ρ c (k0_off4_eq c) (k0_off5_eq c) _ ?_
  -- the blocks come
  refine BI.Entails.trans (?_ : _ ⊢ iprop((R ∗ (atPos ER (sendCell c 0) 0 ∅ 0 ∗ posS c 0) ∗ atPos ER (recvCell c c) 0 ∅ 0
        ∗ atPos ER (barCell c) 1 ∅ 0 ∗ (((c : Thread nD τ).loc cc0_stg0_0) ↦{fullShare} xs m ρ c) ∗ credS c
        ∗ rowPts c c (xs m ρ c) ∗ colPts c c (xg m ρ c))
      ∗ known m ρ K ∗ (∃ W, owes (c : Thread nD τ) 0 W) ∗ credR c ∗ posR c 0)) ?_
  · iintro ⟨⟨HR, HaS, ⟨HaR0, HaR⟩, HcR, HaB, HX, #HK, HO, HcS⟩, Hr, Hc⟩
    isplitr [HO HcR HaR]
    · isplitl [HR]; · iexact HR
      isplitl [HaS]; · iexact HaS
      isplitl [HaR0]; · iexact HaR0
      isplitl [HaB]; · iexact HaB
      isplitl [HX]; · iexact HX
      isplitl [HcS]; · iexact HcS
      isplitl [Hr] <;> iassumption
    isplitr; · iexact HK
    isplitl [HO]; · iexact HO
    isplitl [HcR] <;> iassumption
  refine (came_zero m ρ K c _).trans ?_
  iterate 31
    refine come m ρ K c (by decide) ?_ ?_ _ ?_
    · refine recvSem_num c (by decide) ?_ _; rfl
    · refine credit_arrived c ?_ _ _; decide
  -- the blocks have left
  refine (sep_mono_right (came_end m ρ K c)).trans ?_
  refine BI.Entails.trans (?_ : _ ⊢ iprop((R ∗ atPos ER (sendCell c 0) 0 ∅ 0 ∗ (atPos ER (recvCell c c) 0 ∅ 0 ∗ posR c 1)
        ∗ atPos ER (barCell c) 1 ∅ 0 ∗ (((c : Thread nD τ).loc cc0_stg0_0) ↦{fullShare} xs m ρ c)
        ∗ rowPts c c (xs m ρ c) ∗ ((c : Thread nD τ).loc cc0_scratch1) ↦{fullShare} xg m ρ c)
      ∗ known m ρ K ∗ (∃ W, owes (c : Thread nD τ) 0 W) ∗ credS c ∗ posS c 0)) ?_
  · rw [cols_eq c (xg m ρ c)]
    iintro ⟨⟨HR, ⟨HaS0, HaS⟩, HaR0, HaB, HX, HcS, Hr, Hc⟩, #HK, HO, HaR, Hcs⟩
    isplitr [HO HcS HaS]
    · isplitl [HR]; · iexact HR
      isplitl [HaS0]; · iexact HaS0
      isplitl [HaR0 HaR]; · isplitl [HaR0] <;> iassumption
      isplitl [HaB]; · iexact HaB
      isplitl [HX]; · iexact HX
      isplitl [Hr]; · iexact Hr
      isplitl [Hc] <;> iassumption
    isplitr; · iexact HK
    isplitl [HO]; · iexact HO
    isplitl [HcS] <;> iassumption
  refine (left_zero m ρ K c _).trans ?_
  iterate 31
    refine leave m ρ K c (by decide) ?_ ?_ _ ?_
    · refine sendSem_num (by decide) ?_ _; rfl
    · refine credit_left c ?_ _ _; decide
  -- the cells are closed
  refine (sep_mono_right (left_end m ρ K c)).trans ?_
  iintro ⟨⟨HR, HaS0, HaR, HaB, HX, Hr, Hc⟩, #HK, HO, HaS, Hrs⟩
  imod (close_all m ρ K c) $$ [HaB HaS0 HaS HaR] with Hq
  · isplitr; · iexact HK
    isplitl [HaB]; · iexact HaB
    isplitl [HaS0 HaS]; · isplitl [HaS0] <;> iassumption
    iexact HaR
  iapply (wp_end c h)
  isplitl [HR]; · iexact HR
  unfold after
  isplitl [Hq]; · iexact Hq
  isplitl [HO]; · iexact HO
  isplitl [HX]; · iexact HX
  isplitr [Hc]; · rw [rows_eq]; isplitl [Hr] <;> iassumption
  iexact Hc
end Text

end Cert.KernelIdeal.Exchange
-- ==== Proof.Body.lean ====
/-
The body of the kernel at a point of the grid. At the first point it runs the exchange, widens the gathered rows and
starts the result's rows with the first product; at every later point it adds that point's product.
-/
module

public import proofs.«01_k».proof.Proof.Exchange
public import proofs.«01_k».proof.Proof.Gen.KernelIdeal.Points

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Slot → ℕ) (c : Dev nD)

/-! ## Steps of a program -/

theorem run_then {P : sProp 𝕄} {α β : Type} {Q : β → sProp 𝕄} {p : Prog (TpuEff nD τ sig (Elt F) Λ₀ .tc) α}
    {k : α → Prog (TpuEff nD τ sig (Elt F) Λ₀ .tc) β}
    (h : P ⊢ wp frame (wpE (defs₀ (F := F)) 𝒱₀ (c : Thread nD τ) none) Set.univ p
      fun a => wp frame (wpE (defs₀ (F := F)) 𝒱₀ (c : Thread nD τ) none) Set.univ (k a) Q) :
    P ⊢ wp frame (wpE (defs₀ (F := F)) 𝒱₀ (c : Thread nD τ) none) Set.univ (p >>= k) Q := by
  rw [wp_bind]; exact h

theorem device_step {P : sProp 𝕄} {α : Type} {Q : α → sProp 𝕄} {k : Dev nD → Prog (TpuEff nD τ sig (Elt F) Λ₀ .tc) α}
    (h : P ⊢ wp frame (wpE (defs₀ (F := F)) 𝒱₀ (c : Thread nD τ) none) Set.univ (k c) Q) :
    P ⊢ wp frame (wpE (defs₀ (F := F)) 𝒱₀ (c : Thread nD τ) none) Set.univ (.op .deviceId k) Q := by
  rw [wp_deviceId]; exact h

/-- A load of all of an owned buffer gives what it holds. -/
theorem load_owned {cs : CoreSpace} {s : Shape} {e : EltTy} {mr : Memref sig .tc cs s e} {off : Fin s.rank → ℕ} (hz : off = fun _ => 0)
    {inb : ∀ a, off a + s.size a ≤ s.size a} {hl : mr.view.LoadsAt (Rect.unit (s := s) off s.size inb).toLoadRect}
    {α : Type} {Q : α → sProp 𝕄} {k : (s.Idx → Elt F e) → Prog (TpuEff nD τ sig (Elt F) Λ₀ .tc) α} {X : s.Idx → Elt F e} (R : sProp 𝕄)
    (h : iprop(R ∗ owns (c : Thread nD τ) mr fullShare X)
      ⊢ wp frame (wpE (defs₀ (F := F)) 𝒱₀ (c : Thread nD τ) none) Set.univ (k X) Q) :
    iprop(R ∗ owns (c : Thread nD τ) mr fullShare X)
      ⊢ wp frame (wpE (defs₀ (F := F)) 𝒱₀ (c : Thread nD τ) none) Set.univ (.op (.load mr (Rect.unit (s := s) off s.size inb).toLoadRect hl) k) Q := by
  subst hz
  unfold owns at h ⊢
  iintro ⟨HR, %f, %hf, H⟩
  iapply (wp_load 𝒱₀ (c : Thread nD τ) none Set.univ (m := mr) (S := mr.view.set) (View.setOn_subset_set _ _)) $$ H
  iintro H
  have e : mr.view.readAt (Elt F) (Rect.unit (s := s) (fun _ => 0) s.size inb).toLoadRect f = X := by
    rw [← hf]; funext x; refine congrArg (mr.view.read (Elt F) f) ?_
    show (Rect.whole s).emb x = x
    rw [Rect.emb_whole_apply]
  rw [e]
  iapply h
  isplitl [HR]; · iexact HR
  iexists f
  isplitr; · (ipureintro; exact hf)
  iexact H

/-! ## A point -/

/-- The number a one-element buffer holds. -/
def at0 (X : S1.Idx → Elt F .f32) : Elt F .f32 := X (Shape.Idx.first (numel1_S1.symm ▸ Nat.one_pos))

/-- The columns of the widened rows that point `i` multiplies. -/
def chunk (i : grid0.Coords) (X : S128x4096.Idx → Elt F .f32) : S128x512.Idx → Elt F .f32 :=
  (Memref.whole cc0_scratch2 : Memref sig .tc .vmem S128x4096 .f32).view.readAt (Elt F)
    (Rect.unit (s := S128x4096) (k0_off8 i) S128x512.size (k0_off8_inb i)).toLoadRect X

/-- Where a point's product is added to what the result's buffer holds, and where it starts it. -/
def first (i : grid0.Coords) (X : S128x4096.Idx → Elt F .f32) (W : S512x8192.Idx → Elt F .fp8e4m3) (a b : S1.Idx → Elt F .f32) :
    S128x8192.Idx → Elt F .f32 := k0_pay2 (chunk i X) W (at0 a) (at0 b)
def later (i : grid0.Coords) (X : S128x4096.Idx → Elt F .f32) (W : S512x8192.Idx → Elt F .fp8e4m3) (a b : S1.Idx → Elt F .f32)
    (A : S128x8192.Idx → Elt F .f32) : S128x8192.Idx → Elt F .f32 := k0_pay3 (chunk i X) W (at0 a) (at0 b) A

theorem zero1 : (![0] : Fin 1 → Nat) = fun _ => 0 := funext fun a => by fin_cases a; rfl

section Point
variable (i : grid0.Coords)
  (arg1 : Memref sig .tc .vmem S4096x128 .fp8e4m3) (harg1 : arg1.IsWhole)
  (arg2 : Memref sig .tc .vmem S512x8192 .fp8e4m3) (harg2 : arg2.IsWhole) (arg3 : Memref sig .tc .smem S1 .f32) (harg3 : arg3.IsWhole)
  (arg4 : Memref sig .tc .smem S1 .f32) (harg4 : arg4.IsWhole) (arg5 : Memref sig .tc .vmem S128x8192 .f32) (harg5 : arg5.IsWhole)

/-- The four loads of a point's operands. -/
theorem load_operands {α : Type} {Q : α → sProp 𝕄} {h1 h2 h3 h4} {k : (S128x512.Idx → Elt F .f32) → (S512x8192.Idx → Elt F .fp8e4m3) → (S1.Idx → Elt F .f32) → (S1.Idx → Elt F .f32) → Prog (TpuEff nD τ sig (Elt F) Λ₀ .tc) α}
    {X : S128x4096.Idx → Elt F .f32} {W : S512x8192.Idx → Elt F .fp8e4m3} {a b : S1.Idx → Elt F .f32} (R : sProp 𝕄)
    (h : iprop(R ∗ (((c : Thread nD τ).loc cc0_scratch2) ↦{fullShare} X) ∗ owns (c : Thread nD τ) arg2 fullShare W
        ∗ owns (c : Thread nD τ) arg3 fullShare a ∗ owns (c : Thread nD τ) arg4 fullShare b)
      ⊢ wp frame (wpE (defs₀ (F := F)) 𝒱₀ (c : Thread nD τ) none) Set.univ (k (chunk i X) W a b) Q) :
    iprop(R ∗ (((c : Thread nD τ).loc cc0_scratch2) ↦{fullShare} X) ∗ owns (c : Thread nD τ) arg2 fullShare W
        ∗ owns (c : Thread nD τ) arg3 fullShare a ∗ owns (c : Thread nD τ) arg4 fullShare b)
      ⊢ wp frame (wpE (defs₀ (F := F)) 𝒱₀ (c : Thread nD τ) none) Set.univ
        (.op (.load (Memref.whole cc0_scratch2 : Memref sig .tc .vmem S128x4096 .f32)
            (Rect.unit (s := S128x4096) (k0_off8 i) S128x512.size (k0_off8_inb i)).toLoadRect h1) fun v8 =>
          .op (.load arg2 (Rect.unit (s := S512x8192) ![0, 0] S512x8192.size inb_S512x8192_S512x8192_0_0).toLoadRect h2) fun v9 =>
            .op (.load arg3 (Rect.unit (s := S1) ![0] S1.size inb_S1_S1_0).toLoadRect h3) fun v12 =>
              .op (.load arg4 (Rect.unit (s := S1) ![0] S1.size inb_S1_S1_0).toLoadRect h4) fun v13 =>
                k v8 v9 v12 v13) Q := by
  refine BI.Entails.trans (?_ : _ ⊢ iprop((R ∗ owns (c : Thread nD τ) arg2 fullShare W
      ∗ owns (c : Thread nD τ) arg3 fullShare a ∗ owns (c : Thread nD τ) arg4 fullShare b)
      ∗ (((c : Thread nD τ).loc cc0_scratch2) ↦{fullShare} X))) ?_
  · iintro ⟨HR, H8, H⟩
    isplitl [HR H]
    · isplitl [HR] <;> iassumption
    iexact H8
  refine load_step c (mr := (Memref.whole cc0_scratch2 : Memref sig .tc .vmem S128x4096 .f32)) (S := Finset.univ) (f := X) (Finset.subset_univ _) _ ?_
  refine BI.Entails.trans (?_ : _ ⊢ iprop((R ∗ owns (c : Thread nD τ) arg3 fullShare a ∗ owns (c : Thread nD τ) arg4 fullShare b
      ∗ (((c : Thread nD τ).loc cc0_scratch2) ↦{fullShare} X)) ∗ owns (c : Thread nD τ) arg2 fullShare W)) ?_
  · iintro ⟨⟨HR, H2, H3, H4⟩, H8⟩
    isplitr [H2]
    · isplitl [HR]; · iexact HR
      isplitl [H3]; · iexact H3
      isplitl [H4] <;> iassumption
    iexact H2
  refine load_owned c zero2 _ ?_
  refine BI.Entails.trans (?_ : _ ⊢ iprop((R ∗ owns (c : Thread nD τ) arg2 fullShare W ∗ owns (c : Thread nD τ) arg4 fullShare b
      ∗ (((c : Thread nD τ).loc cc0_scratch2) ↦{fullShare} X)) ∗ owns (c : Thread nD τ) arg3 fullShare a)) ?_
  · iintro ⟨⟨HR, H3, H4, H8⟩, H2⟩
    isplitr [H3]
    · isplitl [HR]; · iexact HR
      isplitl [H2]; · iexact H2
      isplitl [H4] <;> iassumption
    iexact H3
  refine load_owned c zero1 _ ?_
  refine BI.Entails.trans (?_ : _ ⊢ iprop((R ∗ owns (c : Thread nD τ) arg2 fullShare W ∗ owns (c : Thread nD τ) arg3 fullShare a
      ∗ (((c : Thread nD τ).loc cc0_scratch2) ↦{fullShare} X)) ∗ owns (c : Thread nD τ) arg4 fullShare b)) ?_
  · iintro ⟨⟨HR, H2, H4, H8⟩, H3⟩
    isplitr [H4]
    · isplitl [HR]; · iexact HR
      isplitl [H2]; · iexact H2
      isplitl [H3] <;> iassumption
    iexact H4
  refine load_owned c zero1 _ ?_
  refine BI.Entails.trans (?_ : _ ⊢ iprop(R ∗ (((c : Thread nD τ).loc cc0_scratch2) ↦{fullShare} X) ∗ owns (c : Thread nD τ) arg2 fullShare W
      ∗ owns (c : Thread nD τ) arg3 fullShare a ∗ owns (c : Thread nD τ) arg4 fullShare b)) h
  iintro ⟨⟨HR, H2, H3, H8⟩, H4⟩
  isplitl [HR]; · iexact HR
  isplitl [H8]; · iexact H8
  isplitl [H2]; · iexact H2
  isplitl [H3] <;> iassumption

/-- A store of all of an owned buffer. -/
theorem store_owned {cs : CoreSpace} {s : Shape} {e : EltTy} {mr : Memref sig .tc cs s e} {off : Fin s.rank → ℕ} (hz : off = fun _ => 0)
    {inb : ∀ a, off a + s.size a ≤ s.size a} {w : s.Idx → Elt F e} {hx : (mr.access (Rect.unit (s := s) off s.size inb)).Stores Finset.univ} {hm}
    {α : Type} {Q : α → sProp 𝕄} {k : PUnit → Prog (TpuEff nD τ sig (Elt F) Λ₀ .tc) α} {X : s.Idx → Elt F e} (R : sProp 𝕄)
    (h : iprop(R ∗ owns (c : Thread nD τ) mr fullShare w)
      ⊢ wp frame (wpE (defs₀ (F := F)) 𝒱₀ (c : Thread nD τ) none) Set.univ (k ⟨⟩) Q) :
    iprop(R ∗ owns (c : Thread nD τ) mr fullShare X)
      ⊢ wp frame (wpE (defs₀ (F := F)) 𝒱₀ (c : Thread nD τ) none) Set.univ (.op (.store mr (Rect.unit (s := s) off s.size inb) w Finset.univ hx hm) k) Q := by
  subst hz
  unfold owns at h ⊢
  iintro ⟨HR, %f, %hf, H⟩
  have hS : (mr.access (Rect.unit (s := s) (fun _ => 0) s.size inb)).setOn Finset.univ ⊆ mr.view.set := by
    refine (View.setOn_subset_set _ _).trans ?_
    intro j hj
    obtain ⟨x, -, rfl⟩ := Finset.mem_map.mp hj
    exact View.emb_mem_set mr.view _
  iapply (wp_store 𝒱₀ (c : Thread nD τ) none Set.univ (m := mr) (Mk := Finset.univ) hS) $$ H
  iintro H
  iapply h
  isplitl [HR]; · iexact HR
  iexists _
  isplitr
  rotate_left
  · iexact H
  · ipureintro
    refine Eq.trans ?_ ((mr.access (Rect.unit (s := s) (fun _ => 0) s.size inb)).read_write_univ f w)
    funext x
    refine congrArg (mr.view.read (Elt F) _) ?_
    show x = (Rect.whole s).emb x
    rw [Rect.emb_whole_apply]

abbrev body : Prog (TpuEff nD τ sig (Elt F) Λ₀ .tc) PUnit :=
  cc0_body i arg1 harg1 arg2 harg2 arg3 harg3 arg4 harg4 arg5 harg5 (Memref.whole cc0_scratch0) (Memref.isWhole_whole _)
    (Memref.whole cc0_scratch1) (Memref.isWhole_whole _) (Memref.whole cc0_scratch2) (Memref.isWhole_whole _) cc0_scratch3 cc0_scratch4

/-- A later point adds its product. -/
theorem body_later (h1 : ¬ k0_cond1 i = 1#1) (h2 : ¬ k0_cond2 i = 1#1) (h3 : k0_cond3 i = 1#1)
    {X : S128x4096.Idx → Elt F .f32} {W : S512x8192.Idx → Elt F .fp8e4m3} {a b : S1.Idx → Elt F .f32} {A : S128x8192.Idx → Elt F .f32}
    (R : sProp 𝕄) (Q : PUnit → sProp 𝕄)
    (h : iprop((R ∗ (((c : Thread nD τ).loc cc0_scratch2) ↦{fullShare} X) ∗ owns (c : Thread nD τ) arg2 fullShare W
        ∗ owns (c : Thread nD τ) arg3 fullShare a ∗ owns (c : Thread nD τ) arg4 fullShare b) ∗ owns (c : Thread nD τ) arg5 fullShare (later i X W a b A)) ⊢ Q ⟨⟩) :
    iprop((R ∗ (((c : Thread nD τ).loc cc0_scratch2) ↦{fullShare} X) ∗ owns (c : Thread nD τ) arg2 fullShare W
        ∗ owns (c : Thread nD τ) arg3 fullShare a ∗ owns (c : Thread nD τ) arg4 fullShare b) ∗ owns (c : Thread nD τ) arg5 fullShare A)
      ⊢ wp frame (wpE (defs₀ (F := F)) 𝒱₀ (c : Thread nD τ) none) Set.univ
        (body i arg1 harg1 arg2 harg2 arg3 harg3 arg4 harg4 arg5 harg5) Q := by
  unfold body
  rw [cc0_body_eq_skeleton]; unfold cc0_body_skel
  simp only [dif_neg h1, dif_neg h2, dif_pos h3]
  refine device_step c ?_
  refine BI.Entails.trans (?_ : _ ⊢ iprop((R ∗ owns (c : Thread nD τ) arg5 fullShare A) ∗ (((c : Thread nD τ).loc cc0_scratch2) ↦{fullShare} X)
      ∗ owns (c : Thread nD τ) arg2 fullShare W ∗ owns (c : Thread nD τ) arg3 fullShare a ∗ owns (c : Thread nD τ) arg4 fullShare b)) ?_
  · iintro ⟨⟨HR, H⟩, H5⟩
    isplitl [HR H5]
    · isplitl [HR] <;> iassumption
    iexact H
  refine load_operands c i arg2 arg3 arg4 _ ?_
  refine BI.Entails.trans (?_ : _ ⊢ iprop((R ∗ (((c : Thread nD τ).loc cc0_scratch2) ↦{fullShare} X) ∗ owns (c : Thread nD τ) arg2 fullShare W
        ∗ owns (c : Thread nD τ) arg3 fullShare a ∗ owns (c : Thread nD τ) arg4 fullShare b) ∗ owns (c : Thread nD τ) arg5 fullShare A)) ?_
  · iintro ⟨⟨HR, H5⟩, H⟩
    isplitl [HR H]
    · isplitl [HR] <;> iassumption
    iexact H5
  refine load_owned c zero2 _ ?_
  refine load_owned c zero2 _ ?_
  refine store_owned c zero2 _ ?_
  exact wp_end c h

/-- The gathered rows, widened. -/
def wide (c : Dev nD) : S128x4096.Idx → Elt F .f32 := k0_pay1 (xg m ρ c)

abbrev allG : Rect S128x4096 := Rect.unit (s := S128x4096) ![0, 0] S128x4096.size inb_S128x4096_S128x4096_0_0

theorem widen {hl hl'} {hx} {hm} {α : Type} {Q : α → sProp 𝕄} {k : PUnit → Prog (TpuEff nD τ sig (Elt F) Λ₀ .tc) α} (R : sProp 𝕄)
    (h : iprop(R ∗ (((c : Thread nD τ).loc cc0_scratch1) ↦{fullShare} xg m ρ c) ∗ (((c : Thread nD τ).loc cc0_scratch2) ↦{fullShare} wide m ρ c))
      ⊢ wp frame (wpE (defs₀ (F := F)) 𝒱₀ (c : Thread nD τ) none) Set.univ (k ⟨⟩) Q) :
    iprop(R ∗ (((c : Thread nD τ).loc cc0_scratch1) ↦{fullShare} xg m ρ c)
        ∗ ∃ f : Buf (Elt F) ((c : Thread nD τ).loc cc0_scratch2), ((c : Thread nD τ).loc cc0_scratch2) ↦{fullShare} f)
      ⊢ wp frame (wpE (defs₀ (F := F)) 𝒱₀ (c : Thread nD τ) none) Set.univ
        (.op (.load (Memref.whole cc0_scratch1 : Memref sig .tc .vmem S128x4096 .fp8e4m3) allG.toLoadRect hl) fun v =>
          .op (.load (Memref.whole cc0_scratch2 : Memref sig .tc .vmem S128x4096 .f32) allG.toLoadRect hl') fun _ =>
            .op (.store (Memref.whole cc0_scratch2 : Memref sig .tc .vmem S128x4096 .f32) allG (k0_pay1 v) Finset.univ hx hm) k) Q := by
  iintro ⟨HR, HG, %f, HS⟩
  iapply (wp_load 𝒱₀ (c : Thread nD τ) none Set.univ (m := (Memref.whole cc0_scratch1 : Memref sig .tc .vmem S128x4096 .fp8e4m3)) (Finset.subset_univ _)) $$ HG
  iintro HG
  iapply (wp_load 𝒱₀ (c : Thread nD τ) none Set.univ (m := (Memref.whole cc0_scratch2 : Memref sig .tc .vmem S128x4096 .f32)) (Finset.subset_univ _)) $$ HS
  iintro HS
  iapply (wp_store 𝒱₀ (c : Thread nD τ) none Set.univ (m := (Memref.whole cc0_scratch2 : Memref sig .tc .vmem S128x4096 .f32)) (r := allG)
    (Mk := Finset.univ) (Finset.subset_univ _)) $$ HS
  iintro HS
  have e : ((Memref.whole cc0_scratch2 : Memref sig .tc .vmem S128x4096 .f32).access allG).write (Elt F) f
      (k0_pay1 ((Memref.whole cc0_scratch1 : Memref sig .tc .vmem S128x4096 .fp8e4m3).view.readAt (Elt F) allG.toLoadRect (xg m ρ c))) Finset.univ = wide m ρ c := by
    refine (Memref.write_access_unit_zero_univ (Elt F) cc0_scratch2 zero2 _ f _).trans ?_
    exact congrArg k0_pay1 (Memref.readAt_unit_zero (Elt F) cc0_scratch1 zero2 _ _)
  rw [e]
  iapply h
  isplitl [HR]; · iexact HR
  isplitl [HG] <;> iassumption

set_option maxRecDepth 16384 in
/-- The first point exchanges the blocks, widens the rows and starts the result. -/
theorem body_first (h1 : k0_cond1 i = 1#1) (h2 : k0_cond2 i = 1#1) (h3 : ¬ k0_cond3 i = 1#1)
    {W : S512x8192.Idx → Elt F .fp8e4m3} {a b : S1.Idx → Elt F .f32} {A : S128x8192.Idx → Elt F .f32} (Q : PUnit → sProp 𝕄)
    (h : iprop((after m ρ c ∗ (((c : Thread nD τ).loc cc0_scratch2) ↦{fullShare} wide m ρ c) ∗ owns (c : Thread nD τ) arg2 fullShare W
        ∗ owns (c : Thread nD τ) arg3 fullShare a ∗ owns (c : Thread nD τ) arg4 fullShare b)
        ∗ owns (c : Thread nD τ) arg5 fullShare (first i (wide m ρ c) W a b)) ⊢ Q ⟨⟩) :
    iprop(((∃ f : Buf (Elt F) ((c : Thread nD τ).loc cc0_scratch2), ((c : Thread nD τ).loc cc0_scratch2) ↦{fullShare} f)
        ∗ owns (c : Thread nD τ) arg2 fullShare W ∗ owns (c : Thread nD τ) arg3 fullShare a ∗ owns (c : Thread nD τ) arg4 fullShare b
        ∗ owns (c : Thread nD τ) arg5 fullShare A) ∗ before m ρ K c)
      ⊢ wp frame (wpE (defs₀ (F := F)) 𝒱₀ (c : Thread nD τ) none) Set.univ
        (body i (Memref.whole cc0_stg0_0) (Memref.isWhole_whole _) arg2 harg2 arg3 harg3 arg4 harg4 arg5 harg5) Q := by
  unfold body
  rw [cc0_body_eq_skeleton]; unfold cc0_body_skel
  simp only [dif_pos h1, dif_pos h2, dif_neg h3]
  refine run_then c (device_step c (wp_end c ?_))
  refine run_then c ?_
  refine exchange_run m ρ K c i h1 _ arg2 harg2 arg3 harg3 arg4 harg4 arg5 harg5 _ _ ?_
  refine BI.Entails.trans (?_ : _ ⊢ iprop((quiet c ∗ (∃ W, owes (c : Thread nD τ) 0 W) ∗ (((c : Thread nD τ).loc cc0_stg0_0) ↦{fullShare} xs m ρ c)
      ∗ (((c : Thread nD τ).loc cc0_scratch0) ↦{fullShare} xs m ρ c) ∗ owns (c : Thread nD τ) arg2 fullShare W
      ∗ owns (c : Thread nD τ) arg3 fullShare a ∗ owns (c : Thread nD τ) arg4 fullShare b ∗ owns (c : Thread nD τ) arg5 fullShare A)
      ∗ (((c : Thread nD τ).loc cc0_scratch1) ↦{fullShare} xg m ρ c)
      ∗ ∃ f : Buf (Elt F) ((c : Thread nD τ).loc cc0_scratch2), ((c : Thread nD τ).loc cc0_scratch2) ↦{fullShare} f)) ?_
  · unfold after
    iintro ⟨⟨H8, H2, H3, H4, H5⟩, HQ, HO, HX, H0, HG⟩
    isplitr [HG H8]
    · isplitl [HQ]; · iexact HQ
      isplitl [HO]; · iexact HO
      isplitl [HX]; · iexact HX
      isplitl [H0]; · iexact H0
      isplitl [H2]; · iexact H2
      isplitl [H3]; · iexact H3
      isplitl [H4] <;> iassumption
    isplitl [HG] <;> iassumption
  refine widen m ρ c _ ?_
  refine BI.Entails.trans (?_ : _ ⊢ iprop((after m ρ c ∗ owns (c : Thread nD τ) arg5 fullShare A)
      ∗ (((c : Thread nD τ).loc cc0_scratch2) ↦{fullShare} wide m ρ c)
      ∗ owns (c : Thread nD τ) arg2 fullShare W ∗ owns (c : Thread nD τ) arg3 fullShare a ∗ owns (c : Thread nD τ) arg4 fullShare b)) ?_
  · unfold after
    iintro ⟨⟨HQ, HO, HX, H0, H2, H3, H4, H5⟩, HG, H8⟩
    isplitl [HQ HO HX H0 HG H5]
    · isplitr [H5]
      · isplitl [HQ]; · iexact HQ
        isplitl [HO]; · iexact HO
        isplitl [HX]; · iexact HX
        isplitl [H0] <;> iassumption
      iexact H5
    isplitl [H8]; · iexact H8
    isplitl [H2]; · iexact H2
    isplitl [H3] <;> iassumption
  refine load_operands c i arg2 arg3 arg4 _ ?_
  refine BI.Entails.trans (?_ : _ ⊢ iprop((after m ρ c ∗ (((c : Thread nD τ).loc cc0_scratch2) ↦{fullShare} wide m ρ c) ∗ owns (c : Thread nD τ) arg2 fullShare W
        ∗ owns (c : Thread nD τ) arg3 fullShare a ∗ owns (c : Thread nD τ) arg4 fullShare b) ∗ owns (c : Thread nD τ) arg5 fullShare A)) ?_
  · iintro ⟨⟨HR, H5⟩, H⟩
    isplitl [HR H]
    · isplitl [HR] <;> iassumption
    iexact H5
  refine load_owned c zero2 _ ?_
  refine store_owned c zero2 _ ?_
  exact wp_end c h

end Point

/-! ## The pipeline's data -/

/-- Point `n` of the grid. -/
def pt (n : ℕ) : Fin cfg0.N := ⟨n % 8, Nat.mod_lt _ (by decide)⟩

theorem pt_val (t : Fin cfg0.N) : pt t.val = t := Fin.ext (Nat.mod_eq_of_lt t.isLt)

/-- The rows of the second operand at a point, and the two scales. -/
def wb (c : Dev nD) (t : Fin cfg0.N) : S512x8192.Idx → Elt F .fp8e4m3 :=
  (win0_1.blk t).view.read (Elt F) ((s₀ m ρ).mem ((c : Thread nD τ).loc main_arg1))
def sx (c : Dev nD) (t : Fin cfg0.N) : S1.Idx → Elt F .f32 :=
  (win0_2.blk t).view.read (Elt F) ((s₀ m ρ).mem ((c : Thread nD τ).loc main_arg2))
def sy (c : Dev nD) (t : Fin cfg0.N) : S1.Idx → Elt F .f32 :=
  (win0_3.blk t).view.read (Elt F) ((s₀ m ρ).mem ((c : Thread nD τ).loc main_arg3))

/-- What the result's buffer holds after point `n`. -/
def acc (c : Dev nD) : ℕ → S128x8192.Idx → Elt F .f32
  | 0 => first (grid0.coords (pt 0)) (wide m ρ c) (wb m ρ c (pt 0)) (sx m ρ c (pt 0)) (sy m ρ c (pt 0))
  | n + 1 => later (grid0.coords (pt (n + 1))) (wide m ρ c) (wb m ρ c (pt (n + 1))) (sx m ρ c (pt (n + 1))) (sy m ρ c (pt (n + 1))) (acc c n)

/-- Before the first point and after it. -/
def start (c : Dev nD) : sProp 𝕄 := iprop((∃ K, ghost m ρ K c) ∗ dues c)
def Φ₀ (c : Dev nD) : sProp 𝕄 := iprop(start m ρ c
  ∗ (∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f)
  ∗ (∃ f : Buf (Elt F) ((c : Thread nD τ).loc cc0_scratch2), ((c : Thread nD τ).loc cc0_scratch2) ↦{fullShare} f))
def Φ₁ (c : Dev nD) : sProp 𝕄 := iprop(quiet c
  ∗ (((c : Thread nD τ).loc cc0_scratch0) ↦{fullShare} xs m ρ c)
  ∗ (((c : Thread nD τ).loc cc0_scratch1) ↦{fullShare} xg m ρ c)
  ∗ (((c : Thread nD τ).loc cc0_scratch2) ↦{fullShare} wide m ρ c))

def dats (_ : Fin 1) (c : Dev nD) : Dat τ (Elt F) Unit ℕ UU ℕ cfg0 c where
  A w := (s₀ m ρ).mem ((cfg0.win w).arr.view.loc (c : Thread nD τ))
  after w t := match w with
    | 0 => (win0_0.blk t).view.read (Elt F) ((s₀ m ρ).mem ((c : Thread nD τ).loc main_arg0))
    | 1 => wb m ρ c t
    | 2 => sx m ρ c t
    | 3 => sy m ρ c t
    | 4 => acc m ρ c t.val
  Φ t := if t.val = 0 then Φ₀ m ρ c else Φ₁ m ρ c
  q _ := fullShare
  owed t := if t.val = 0 then O₀ c else 0

theorem held_0 (t d) : (dats m ρ 0 c).before 0 t d = xs m ρ c :=
  (dats m ρ 0 c).before_in_eq_fetched 0 rfl (fun _ => rfl) (fun _ _ _ => rfl) (fun _ => rfl) t d
theorem held_1 (t d) : (dats m ρ 0 c).before 1 t d = wb m ρ c t :=
  (dats m ρ 0 c).before_in_eq_fetched 1 rfl (fun _ => rfl) (fun _ _ _ => rfl) (fun _ => rfl) t d
theorem held_2 (t d) : (dats m ρ 0 c).before 2 t d = sx m ρ c t :=
  (dats m ρ 0 c).before_in_eq_fetched 2 rfl (fun _ => rfl) (fun _ _ _ => rfl) (fun _ => rfl) t d
theorem held_3 (t d) : (dats m ρ 0 c).before 3 t d = sy m ρ c t :=
  (dats m ρ 0 c).before_in_eq_fetched 3 rfl (fun _ => rfl) (fun _ _ _ => rfl) (fun _ => rfl) t d
/-- Every point writes the result's buffer. -/
theorem never_idle : ∀ i : grid0.Coords, idle0 4 i = false := by decide +kernel

theorem held_4 (t : Fin cfg0.N) (n : ℕ) (h : t.val = n + 1) (d) : (dats m ρ 0 c).before 4 t d = acc m ρ c n := by
  have ht : t.val < 8 := t.isLt
  refine ((dats m ρ 0 c).before_out_kept 4 rfl t (by omega) ?_ never_idle (fun _ _ => rfl) d).trans ?_
  · rw [Bool.eq_false_iff]; intro hf
    have := (flush0_4 _).mp hf
    simp only at this; omega
  · show acc m ρ c (t.val - 1) = acc m ρ c n
    rw [h]; rfl

end Cert.KernelIdeal.Exchange

end
-- ==== Proof.Grid.lean ====
/-
What the pipeline asks of the body: from the invariant and the buffers before a point to those after it.
-/
module

public import proofs.«01_k».proof.Proof.Body

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Slot → ℕ) (c : Dev nD)

theorem conds_first : ∀ t : Fin grid0.N, t.val = 0 →
    k0_cond1 (grid0.coords t) = 1#1 ∧ k0_cond2 (grid0.coords t) = 1#1 ∧ ¬ k0_cond3 (grid0.coords t) = 1#1 := by decide +kernel
theorem conds_later : ∀ t : Fin grid0.N, t.val ≠ 0 →
    ¬ k0_cond1 (grid0.coords t) = 1#1 ∧ ¬ k0_cond2 (grid0.coords t) = 1#1 ∧ k0_cond3 (grid0.coords t) = 1#1 := by decide +kernel

/-- What is left of a window's buffer, as the obligation asks for it. -/
def left (t : Fin cfg0.N) : sProp 𝕄 :=
  iprop(owns (c : Thread nD τ) (st0_0 t) fullShare (xs m ρ c) ∗ owns (c : Thread nD τ) (st0_1 t) fullShare (wb m ρ c t)
    ∗ owns (c : Thread nD τ) (st0_2 t) fullShare (sx m ρ c t) ∗ owns (c : Thread nD τ) (st0_3 t) fullShare (sy m ρ c t)
    ∗ owns (c : Thread nD τ) (st0_4 t) fullShare (acc m ρ c t.val))

def found (t : Fin cfg0.N) (A : S128x8192.Idx → Elt F .f32) : sProp 𝕄 :=
  iprop(owns (c : Thread nD τ) (st0_0 t) fullShare (xs m ρ c) ∗ owns (c : Thread nD τ) (st0_1 t) fullShare (wb m ρ c t)
    ∗ owns (c : Thread nD τ) (st0_2 t) fullShare (sx m ρ c t) ∗ owns (c : Thread nD τ) (st0_3 t) fullShare (sy m ρ c t)
    ∗ owns (c : Thread nD τ) (st0_4 t) fullShare A)

theorem point_later (t : Fin cfg0.N) (n : ℕ) (h : t.val = n + 1) :
    iprop(Φ₁ m ρ c ∗ (∃ W, owes (c : Thread nD τ) 0 W) ∗ found m ρ c t (acc m ρ c n))
      ⊢ wp frame (wpE (defs₀ (F := F)) 𝒱₀ (c : Thread nD τ) none) Set.univ (bodyAt0 t) fun _ =>
        iprop(Φ₁ m ρ c ∗ (∃ W, owes (c : Thread nD τ) 0 W) ∗ left m ρ c t) := by
  obtain ⟨h1, h2, h3⟩ := conds_later t (by omega)
  unfold Φ₁ found
  refine BI.Entails.trans (?_ : _ ⊢ iprop(((quiet c ∗ (((c : Thread nD τ).loc cc0_scratch0) ↦{fullShare} xs m ρ c)
      ∗ (((c : Thread nD τ).loc cc0_scratch1) ↦{fullShare} xg m ρ c) ∗ (∃ W, owes (c : Thread nD τ) 0 W) ∗ owns (c : Thread nD τ) (st0_0 t) fullShare (xs m ρ c))
      ∗ (((c : Thread nD τ).loc cc0_scratch2) ↦{fullShare} wide m ρ c) ∗ owns (c : Thread nD τ) (st0_1 t) fullShare (wb m ρ c t)
      ∗ owns (c : Thread nD τ) (st0_2 t) fullShare (sx m ρ c t) ∗ owns (c : Thread nD τ) (st0_3 t) fullShare (sy m ρ c t))
      ∗ owns (c : Thread nD τ) (st0_4 t) fullShare (acc m ρ c n))) ?_
  · iintro ⟨⟨HQ, H0, HG, H8⟩, HO, HX, H2, H3, H4, H5⟩
    isplitr [H5]
    · isplitl [HQ H0 HG HO HX]
      · isplitl [HQ]; · iexact HQ
        isplitl [H0]; · iexact H0
        isplitl [HG]; · iexact HG
        isplitl [HO] <;> iassumption
      isplitl [H8]; · iexact H8
      isplitl [H2]; · iexact H2
      isplitl [H3] <;> iassumption
    iexact H5
  refine body_later c (grid0.coords t) (st0_0 t) _ (st0_1 t) _ (st0_2 t) _ (st0_3 t) _ (st0_4 t) _ h1 h2 h3 _ _ ?_
  have e : later (grid0.coords t) (wide m ρ c) (wb m ρ c t) (sx m ρ c t) (sy m ρ c t) (acc m ρ c n) = acc m ρ c t.val := by
    rw [h]; show _ = later _ _ _ _ _ _; rw [← h, pt_val]
  rw [e]
  unfold left
  iintro ⟨⟨⟨HQ, H0, HG, HO, HX⟩, H8, H2, H3, H4⟩, H5⟩
  isplitl [HQ H0 HG H8]
  · isplitl [HQ]; · iexact HQ
    isplitl [H0]; · iexact H0
    isplitl [HG] <;> iassumption
  isplitl [HO]; · iexact HO
  isplitl [HX]; · iexact HX
  isplitl [H2]; · iexact H2
  isplitl [H3]; · iexact H3
  isplitl [H4] <;> iassumption

theorem point_first (A) :
    iprop(Φ₀ m ρ c ∗ (∃ W, owes (c : Thread nD τ) (O₀ c) W) ∗ found m ρ c t0_0 A)
      ⊢ wp frame (wpE (defs₀ (F := F)) 𝒱₀ (c : Thread nD τ) none) Set.univ (bodyAt0 t0_0) fun _ =>
        iprop(Φ₁ m ρ c ∗ (∃ W, owes (c : Thread nD τ) 0 W) ∗ left m ρ c t0_0) := by
  obtain ⟨h1, h2, h3⟩ := conds_first t0_0 rfl
  unfold Φ₀ start found
  rw [show (st0_0 t0_0) = Memref.whole cc0_stg0_0 from rfl, owns_whole]
  iintro ⟨⟨⟨⟨%K, HK⟩, HD⟩, H0, H1, H8⟩, HO, HX, H2, H3, H4, H5⟩
  iapply (body_first m ρ K c (grid0.coords t0_0) (st0_1 t0_0) (hstage0_1 ((cfg0.slots t0_0 1).cast nbuf0_1)) (st0_2 t0_0) (hstage0_2 ((cfg0.slots t0_0 2).cast nbuf0_2))
    (st0_3 t0_0) (hstage0_3 ((cfg0.slots t0_0 3).cast nbuf0_3)) (st0_4 t0_0) (hstage0_4 ((cfg0.slots t0_0 4).cast nbuf0_4)) h1 h2 h3 _ ?_)
  rotate_left
  · unfold before
    isplitl [H8 H2 H3 H4 H5]
    · isplitl [H8]; · iexact H8
      isplitl [H2]; · iexact H2
      isplitl [H3]; · iexact H3
      isplitl [H4] <;> iassumption
    isplitl [HK]; · iexact HK
    isplitl [HD]; · iexact HD
    isplitl [HO]; · iexact HO
    isplitl [HX]; · iexact HX
    isplitl [H0] <;> iassumption
  · have e : first (grid0.coords t0_0) (wide m ρ c) (wb m ρ c t0_0) (sx m ρ c t0_0) (sy m ρ c t0_0) = acc m ρ c t0_0.val := rfl
    rw [e]
    unfold left after Φ₁
    rw [show (st0_0 t0_0) = Memref.whole cc0_stg0_0 from rfl, owns_whole]
    iintro ⟨⟨⟨HQ, HO, HX, H0, HG⟩, H8, H2, H3, H4⟩, H5⟩
    isplitl [HQ H0 HG H8]
    · isplitl [HQ]; · iexact HQ
      isplitl [H0]; · iexact H0
      isplitl [HG] <;> iassumption
    isplitl [HO]; · iexact HO
    isplitl [HX]; · iexact HX
    isplitl [H2]; · iexact H2
    isplitl [H3]; · iexact H3
    isplitl [H4] <;> iassumption

theorem owes_in (O) (t) (hO : (dats m ρ 0 c).owed t = O) : (dats m ρ 0 c).owesAt () t ⊢ iprop(∃ W, owes (c : Thread nD τ) O W) := by
  subst hO
  unfold Dat.owesAt Pipeline.owesWithin
  iintro ⟨%W, -, H⟩
  iexists W; iexact H
theorem owes_out (O) (t) (hO : (dats m ρ 0 c).owed t = O) : iprop(∃ W, owes (c : Thread nD τ) O W) ⊢ (dats m ρ 0 c).owesAt () t := by
  subst hO
  unfold Dat.owesAt Pipeline.owesWithin
  iintro ⟨%W, H⟩
  iexists W
  isplitr; · (ipureintro; exact fun _ _ => Or.inl trivial)
  iexact H

theorem left_out (t : Fin cfg0.N) : left m ρ c t ⊢ iprop(owns (c : Thread nD τ) (st0_0 t) fullShare ((dats m ρ 0 c).after 0 t)
    ∗ owns (c : Thread nD τ) (st0_1 t) fullShare ((dats m ρ 0 c).after 1 t) ∗ owns (c : Thread nD τ) (st0_2 t) fullShare ((dats m ρ 0 c).after 2 t)
    ∗ owns (c : Thread nD τ) (st0_3 t) fullShare ((dats m ρ 0 c).after 3 t) ∗ owns (c : Thread nD τ) (st0_4 t) fullShare ((dats m ρ 0 c).after 4 t)) :=
  BI.Entails.refl _

/-- The buffers as the pipeline hands them over. -/
def offered (t : Fin cfg0.N) : sProp 𝕄 :=
  iprop((∃ d, owns (c : Thread nD τ) (st0_0 t) fullShare ((dats m ρ 0 c).before 0 t d)) ∗ (∃ d, owns (c : Thread nD τ) (st0_1 t) fullShare ((dats m ρ 0 c).before 1 t d))
    ∗ (∃ d, owns (c : Thread nD τ) (st0_2 t) fullShare ((dats m ρ 0 c).before 2 t d)) ∗ (∃ d, owns (c : Thread nD τ) (st0_3 t) fullShare ((dats m ρ 0 c).before 3 t d))
    ∗ (∃ d, owns (c : Thread nD τ) (st0_4 t) fullShare ((dats m ρ 0 c).before 4 t d)))

theorem offered_in (t : Fin cfg0.N) : offered m ρ c t ⊢ iprop(∃ d, found m ρ c t ((dats m ρ 0 c).before 4 t d)) := by
  unfold offered found
  simp only [held_0, held_1, held_2, held_3]
  iintro ⟨⟨%d0, H1⟩, ⟨%d1, H2⟩, ⟨%d2, H3⟩, ⟨%d3, H4⟩, %d, H5⟩
  iexists d
  isplitl [H1]; · iexact H1
  isplitl [H2]; · iexact H2
  isplitl [H3]; · iexact H3
  isplitl [H4] <;> iassumption

theorem phi_at (t : Fin (cfg0.N + 1)) : (dats m ρ 0 c).Φ t = if t.val = 0 then Φ₀ m ρ c else Φ₁ m ρ c := rfl
theorem owed_at (t : Fin (cfg0.N + 1)) : (dats m ρ 0 c).owed t = if t.val = 0 then O₀ c else 0 := rfl

theorem point (t : Fin cfg0.N) :
    iprop((dats m ρ 0 c).Φ t.castSucc ∗ (dats m ρ 0 c).owesAt () t.castSucc ∗ offered m ρ c t)
      ⊢ wp frame (wpE (defs₀ (F := F)) 𝒱₀ (c : Thread nD τ) none) Set.univ (bodyAt0 t) fun _ =>
        iprop(Φ₁ m ρ c ∗ (∃ W, owes (c : Thread nD τ) 0 W) ∗ left m ρ c t) := by
  by_cases ht : t.val = 0
  · obtain rfl : t = t0_0 := Fin.ext ht
    have hΦ : (dats m ρ 0 c).Φ (t0_0 : Fin cfg0.N).castSucc = Φ₀ m ρ c := rfl
    rw [hΦ]
    refine (sep_mono_right (BIClass.sep_mono (owes_in m ρ c (O₀ c) _ rfl) (offered_in m ρ c t0_0))).trans ?_
    iintro ⟨HΦ, HO, %d, H⟩
    iapply (point_first m ρ c ((dats m ρ 0 c).before 4 t0_0 d))
    isplitl [HΦ]; · iexact HΦ
    isplitl [HO] <;> iassumption
  · obtain ⟨n, hn⟩ := Nat.exists_eq_succ_of_ne_zero ht
    have hΦ : (dats m ρ 0 c).Φ t.castSucc = Φ₁ m ρ c := (phi_at m ρ c _).trans (if_neg ht)
    have ho : (dats m ρ 0 c).owed t.castSucc = 0 := (owed_at m ρ c _).trans (if_neg ht)
    rw [hΦ]
    refine (sep_mono_right (BIClass.sep_mono (owes_in m ρ c 0 _ ho) (offered_in m ρ c t))).trans ?_
    simp only [held_4 m ρ c t n hn]
    iintro ⟨HΦ, HO, %d, H⟩
    iapply (point_later m ρ c t n hn)
    isplitl [HΦ]; · iexact HΦ
    isplitl [HO] <;> iassumption

/-- A point's work as the pipeline asks for it. -/
theorem body_obligation (c : Dev nD) : BodyObligation (dats (F := F) m ρ 0 c) (defs₀ (F := F)) 𝒱₀ () Set.univ := fun t => by
  rw [bigSep_W0, bigSep_W0]
  have hΦ : (dats m ρ 0 c).Φ t.succ = Φ₁ m ρ c := (phi_at m ρ c _).trans (if_neg (Nat.succ_ne_zero t.val))
  have ho : (dats m ρ 0 c).owed t.succ = 0 := (owed_at m ρ c _).trans (if_neg (Nat.succ_ne_zero t.val))
  rw [hΦ, show cfg0.idle 4 (cfg0.grid.coords t) = false from never_idle _]
  refine (point m ρ c t).trans (wp_mono _ _ _ fun _ => ?_)
  have h := sep_mono_right (P := Φ₁ m ρ c) (BIClass.sep_mono (owes_out m ρ c 0 _ ho) (left_out m ρ c t))
  exact h

end Cert.KernelIdeal.Exchange

end
-- ==== Proof.Deal.lean ====
/-
What the launch deals: the cells and the rights to pay into them, device by device, and the units the devices owe each
other. A family "device `c`, payer `d`" is turned around so that each device holds the rights to its own payments.
-/
module

public import proofs.«01_k».proof.Proof.Grid

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)

/-! ## Cells and rights -/

/-- A family over thirty-one numbers. -/
theorem thirty_one {M : Type} [URA M] (Φ : ℕ → sProp M) :
    bigSep Finset.univ (fun r : Fin 31 => Φ r.val) = bigSep (Finset.range 31) Φ := by
  have h : Finset.range 31 = (Finset.univ : Finset (Fin 31)).map Fin.valEmbedding := by
    ext r
    simp only [Finset.mem_range, Finset.mem_map, Finset.mem_univ, true_and]
    exact ⟨fun h => ⟨⟨r, h⟩, rfl⟩, fun ⟨a, ha⟩ => ha ▸ a.isLt⟩
  rw [h, bigSep_map]; rfl

def allCells : Finset (GSem nD τ sig) := Finset.univ.map ⟨kcell, kcell_inj⟩

/-- The three kinds of payment into device `c`'s cells: to its barrier, for a block it sends, for a block it gets. -/
inductive Kind3 | bar | sent | got
  deriving DecidableEq

instance : Fintype Kind3 := ⟨{.bar, .sent, .got}, fun x => by cases x <;> decide⟩

/-- The payment of kind `k` that concerns `c` and its `r`-th peer. -/
abbrev payment (x : Dev nD × Kind3 × Fin 31) : GSem nD τ sig × ℕ × Dev nD :=
  match x.2.1 with
  | .bar => (barCell x.1, 0, peer x.1 x.2.2.val)
  | .sent => (sendCell x.1 (sn x.2.2.val), 0, x.1)
  | .got => (recvCell x.1 (peer x.1 x.2.2.val), 0, peer x.1 x.2.2.val)

theorem sn_inj {r r' : Fin 31} (h : sn r.val = sn r'.val) : r = r' := by
  rw [sn_eq r.isLt, sn_eq r'.isLt] at h
  have := congrArg Fin.val h
  simp only at this
  exact Fin.ext (by omega)

theorem payment_inj : Function.Injective payment := by
  rintro ⟨c, k, r⟩ ⟨c', k', r'⟩ h
  have hc : c = c' := by
    have := congrArg (fun y : GSem nD τ sig × ℕ × Dev nD => y.1.1.1) h
    cases k <;> cases k' <;> exact this
  subst hc
  have h2 := congrArg (fun y : GSem nD τ sig × ℕ × Dev nD => y.1.2) h
  cases k <;> cases k'
  · have h3 := congrArg (fun y : GSem nD τ sig × ℕ × Dev nD => y.2.2) h
    rw [Fin.ext (peer_inj c r.isLt r'.isLt h3)]
  · cases h2
  · cases h2
  · cases h2
  · have h3 := slotSem_inj (a₁ := .inr (.inl (sn r.val))) (a₂ := .inr (.inl (sn r'.val))) h2
    rw [sn_inj (Sum.inl.inj (Sum.inr.inj h3))]
  · have h3 := slotSem_inj (a₁ := .inr (.inl (sn r.val))) (a₂ := .inr (.inr (peer c r'.val))) h2
    cases Sum.inr.inj h3
  · cases h2
  · have h3 := slotSem_inj (a₁ := .inr (.inr (peer c r.val))) (a₂ := .inr (.inl (sn r'.val))) h2
    cases Sum.inr.inj h3
  · have h3 := congrArg (fun y : GSem nD τ sig × ℕ × Dev nD => y.2.2) h
    rw [Fin.ext (peer_inj c r.isLt r'.isLt h3)]

def allPayments : Finset (GSem nD τ sig × ℕ × Dev nD) := Finset.univ.map ⟨payment, payment_inj⟩

/-- The rights to pay into device `c`'s cells. -/
def rights (c : Dev nD) : sProp 𝕄 :=
  iprop((bigSep (Finset.range 31) fun r => dutyTok ER (barCell c) 0 (peer c r))
    ∗ (bigSep (Finset.range 31) fun r => dutyTok ER (sendCell c (sn r)) 0 c)
    ∗ bigSep (Finset.range 31) fun r => dutyTok ER (recvCell c (peer c r)) 0 (peer c r))

/-- The rights device `c` uses. -/
def myRights (c : Dev nD) : sProp 𝕄 :=
  iprop((bigSep (Finset.range 31) fun r => dutyTok ER (barCell (peer c r)) 0 c) ∗ payS c)

theorem payments_eq : bigSep allPayments (fun x => (dutyTok ER x.1 x.2.1 x.2.2 : sProp 𝕄)) = bigSep Finset.univ fun c : Dev nD => rights c := by
  unfold allPayments
  rw [bigSep_map, bigSep_univ_prod]
  refine bigSep_congr fun c _ => ?_
  unfold rights
  rw [bigSep_univ_prod, ← thirty_one, ← thirty_one, ← thirty_one]
  exact bigSep_univ_eq_bigSepL [Kind3.bar, .sent, .got] (by decide) (by decide) _

/-- Each device gets the rights it uses. -/
theorem rights_around : (bigSep Finset.univ fun c : Dev nD => (rights c : sProp 𝕄)) = bigSep Finset.univ fun c : Dev nD => myRights c := by
  have turn (Ψ : Dev nD → Dev nD → sProp 𝕄) :
      (bigSep Finset.univ fun c : Dev nD => bigSep (Finset.range 31) fun r => Ψ c (peer c r))
        = bigSep Finset.univ fun c : Dev nD => bigSep (Finset.range 31) fun r => Ψ (peer c r) c := by
    rw [bigSep_congr (s := Finset.univ) fun (c : Dev nD) _ => (others_eq c fun d => Ψ c d).symm, bigSep_erase_comm,
      bigSep_congr (s := Finset.univ) fun (c : Dev nD) _ => others_eq c fun d => Ψ d c]
  unfold rights myRights payS
  rw [bigSep_sep', bigSep_sep', turn fun c d => dutyTok ER (barCell c) 0 d, turn fun c d => dutyTok ER (recvCell c d) 0 d, ← bigSep_sep', ← bigSep_sep']
  exact bigSep_congr fun c _ => by rw [bigSep_sep']

/-! ## The units owed -/

theorem bar_inj {c d : Dev nD} (h : barCell c = barCell d) : c = d := congrArg (fun g : GSem nD τ sig => g.1.1) h
theorem recv_inj {c d s t : Dev nD} (h : recvCell c s = recvCell d t) : c = d ∧ s = t := by
  have := kcell_inj (a₁ := (c, .inr (.inr s))) (a₂ := (d, .inr (.inr t))) h
  exact ⟨congrArg Prod.fst this, Sum.inr.inj (Sum.inr.inj (congrArg Prod.snd this))⟩
theorem bar_ne_recv {c d s : Dev nD} : barCell c ≠ recvCell d s := fun h => by cases congrArg (fun g : GSem nD τ sig => g.2) h

theorem sum_at (g : GSem nD τ sig) (f : ℕ → GSem nD τ sig) (k : ℕ) :
    (∑ r ∈ Finset.Ico 0 31, (tallyAt (f r) () k : CellTallies nD τ sig Unit)) g () = ∑ r ∈ Finset.Ico 0 31, if g = f r then k else 0 := by
  rw [Finset.sum_apply, Finsupp.finset_sum_apply]
  refine Finset.sum_congr rfl fun r _ => ?_
  rw [tallyAt_apply]
  by_cases h : g = f r
  · rw [if_pos ⟨h, rfl⟩, if_pos h]
  · rw [if_neg fun h' => h h'.1, if_neg h]

/-- The device that has `c` as its `r`-th peer. -/
def back (c : Dev nD) (r : ℕ) : Dev nD := ⟨(c.val + 63 - r % 32) % 32, Nat.mod_lt _ (by decide)⟩
theorem peer_eq_iff (c d : Dev nD) {r : ℕ} (hr : r < 31) : c = peer d r ↔ d = back c r := by
  have hc : c.val < 32 := c.isLt
  have hd : d.val < 32 := d.isLt
  rw [Fin.ext_iff, Fin.ext_iff, peer_val]
  show _ ↔ d.val = (c.val + 63 - r % 32) % 32
  omega

theorem owed_bar (c : Dev nD) : ∑ d : Dev nD, O₀ d (barCell c) () = 31 := by
  have h (d : Dev nD) : O₀ d (barCell c) () = ∑ r ∈ Finset.Ico 0 31, if d = back c r then 1 else 0 := by
    unfold O₀ owedSend owedBar
    rw [Pi.add_apply, Finsupp.add_apply, sum_at, sum_at, Finset.sum_eq_zero fun r _ => if_neg bar_ne_recv, Nat.zero_add]
    refine Finset.sum_congr rfl fun r hr => ?_
    have hr' : r < 31 := (Finset.mem_Ico.mp hr).2
    refine if_congr ⟨fun e => (peer_eq_iff c d hr').mp (bar_inj e), fun e => ?_⟩ rfl rfl
    exact congrArg barCell ((peer_eq_iff c d hr').mpr e)
  rw [Finset.sum_congr rfl fun d _ => h d, Finset.sum_comm,
    Finset.sum_congr rfl fun r _ => Finset.sum_ite_eq' Finset.univ (back c r) fun _ => 1]
  simp

theorem owed_recv (c s : Dev nD) (hs : s ≠ c) : ∑ d : Dev nD, O₀ d (recvCell c s) () = N := by
  obtain ⟨q, hq, rfl⟩ := exists_peer hs.symm
  have h (d : Dev nD) : O₀ d (recvCell (peer s q) s) () = if d = s then N else 0 := by
    unfold O₀ owedSend owedBar
    rw [Pi.add_apply, Finsupp.add_apply, sum_at, sum_at, Finset.sum_eq_zero (s := Finset.Ico 0 31) (f := fun r => if recvCell (peer s q) s = barCell (peer d r) then 1 else 0)
      fun r _ => if_neg fun e => bar_ne_recv e.symm, Nat.add_zero]
    by_cases hd : d = s
    · subst hd
      rw [if_pos rfl, Finset.sum_eq_single q (fun r hr hne => if_neg fun e => hne (peer_inj d (Finset.mem_Ico.mp hr).2 hq (recv_inj e).1.symm))
        (fun hn => absurd (Finset.mem_Ico.mpr ⟨Nat.zero_le _, hq⟩) hn), if_pos rfl]
    · rw [if_neg hd, Finset.sum_eq_zero fun r _ => if_neg fun e => hd (recv_inj e).2.symm]
  rw [Finset.sum_congr rfl fun d _ => h d, Finset.sum_ite_eq' Finset.univ s fun _ => N, if_pos (Finset.mem_univ _)]

theorem credit_of {g : GSem nD τ sig} {k : ℕ} (h : ∑ d : Dev nD, O₀ d g () = k) :
    tallyOn g (launchCredit (Pipeline.owing O₀) 0 g) = (tallyAt g () k : CellTallies nD τ sig Unit) := by
  unfold tallyAt
  refine congrArg _ (Finsupp.ext fun u => ?_)
  cases u
  rw [Pipeline.launchCredit_owing, Finsupp.single_eq_same, h]

theorem dues_intro (c : Dev nD) : (Pipeline.launchCred O₀ c : sProp 𝕄) ⊢ dues c := by
  let e : Fin 31 ↪ SemLoc sig := ⟨fun r => .dma (recvQ (peer c r.val)), fun r r' h => by
    have := slotSem_inj (a₁ := .inr (.inr (peer c r.val))) (a₂ := .inr (.inr (peer c r'.val))) h
    exact Fin.ext (peer_inj c r.isLt r'.isLt (Sum.inr.inj (Sum.inr.inj this)))⟩
  unfold Pipeline.launchCred dues credR
  rw [bigSep_univ_at _ (SemLoc.reg barS), credit_of (owed_bar c), ← thirty_one]
  refine sep_mono_right ((bigSep_subset (t := Finset.univ.map e) fun sm h => ?_).trans ?_)
  · obtain ⟨r, -, rfl⟩ := Finset.mem_map.mp h
    exact Finset.mem_erase.mpr ⟨fun h => (by cases h), Finset.mem_univ _⟩
  · rw [bigSep_map]
    exact bigSep_mono fun r _ => Entails.of_eq (congrArg cred (credit_of (owed_recv c (peer c r.val) (peer_ne c r.isLt))))

end Cert.KernelIdeal.Exchange

end
-- ==== Proof.Launch.lean ====
/-
The launch: the cells are opened for all the devices at once, each device gets its rights and its positions, and every
run ends with the arrays at what the grid's points made of them and every counter at zero.
-/
module

public import Idealize.ShloMosaic.Lib.Pipeline.CollectiveSegs
public import proofs.«01_k».proof.Proof.Deal
public import proofs.«01_k».proof.Proof.Gen.KernelIdeal.Launch

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Slot → ℕ) (c : Dev nD)

/-! ## Opening the cells -/

/-- The kernel's own semaphores: those of the send cells and of the receive cells. -/
abbrev osem : Fin 32 ⊕ Fin 32 → SemLoc sig := fun k => slotSem (.inr k)

theorem ownSemFacts : Pipeline.OwnSemFacts cfg0.spec osem := by decide

theorem share_eq (w : Fin cfg0.W) : (dats m ρ 0 c).share w = fullShare := by unfold Dat.share; split <;> rfl

def u₀ : UU :=
  (initOf (Pipeline.cells cfgs cellOf_inj) (Pipeline.launchToks cfgs cellOf_inj), initOf allCells allPayments)

/-- The positions of device `c`, each with the record that its cell has begun. -/
abbrev begun : sProp 𝕄 := bigSep Finset.univ fun k : Slot => iprop(atPos ER (kcell (c, k)) 0 ∅ 0 ∗ reached ER (kcell (c, k)) 0)

/-- What the launch deals device `c`. -/
def dealt : sProp 𝕄 :=
  iprop((bigSep Finset.univ fun k : Slot => roundState ER (plan m ρ) (kcell (c, k)) 0) ∗ begun c ∗ rights c)

theorem cells_eq (Φ : GSem nD τ sig → sProp 𝕄) :
    bigSep allCells Φ = bigSep Finset.univ fun c : Dev nD => bigSep Finset.univ fun k : Slot => Φ (kcell (c, k)) := by
  unfold allCells; rw [bigSep_map, bigSep_univ_prod]; rfl

theorem fund_all : BI.own (ER (initOf allCells allPayments)) ⊢ (|==> bigSep Finset.univ (dealt (F := F) m ρ) : sProp 𝕄) := by
  iintro HX
  imod (Rounds.fund ER (plan m ρ) allCells allPayments) $$ HX with ⟨Hst, Hr, Hat, Htok⟩
  imodintro
  ihave Hst' := (Entails.of_eq (cells_eq fun g => roundState ER (plan m ρ) g 0)) $$ Hst
  ihave Hat' := (Entails.of_eq (cells_eq (F := F) fun g => atPos ER g 0 ∅ 0)) $$ Hat
  ihave Hr' := (Entails.of_eq (cells_eq (F := F) fun g => reached ER g 0)) $$ Hr
  ihave Htok' := (Entails.of_eq (payments_eq (F := F))) $$ Htok
  unfold dealt begun
  simp only [bigSep_sep']
  isplitl [Hst']; · iexact Hst'
  isplitl [Hat' Hr']
  · isplitl [Hat'] <;> iassumption
  iexact Htok'

theorem ownSems0_eq : (Pipeline.ownSems0 (Ix := Unit) (Name := ℕ) (U := UU) (Lvl := ℕ) (Val := Elt F) (τ := τ) osem c : sProp 𝕄)
    = iprop((bigSep Finset.univ fun n : Fin 32 => semVal (sendCell c n) 0) ∗ bigSep Finset.univ fun s : Dev nD => semVal (recvCell c s) 0) := by
  unfold Pipeline.ownSems0; exact bigSep_univ_sum _
theorem unscopedSems0_eq : (unscopedSems0 c : sProp 𝕄) = semVal (barCell c) 0 := by
  unfold unscopedSems0; rw [bigSep_eq_bigSepL_of_eq [SemLoc.reg barS] (by decide) (by decide)]; rfl

/-- A family over the cells of one device. -/
theorem slots_eq (Φ : Slot → sProp 𝕄) :
    bigSep Finset.univ Φ = iprop(Φ (.inl ()) ∗ (bigSep Finset.univ fun n => Φ (.inr (.inl n))) ∗ bigSep Finset.univ fun s => Φ (.inr (.inr s))) := by
  rw [bigSep_univ_sum, bigSep_univ_sum]
  exact congrArg (fun X => iprop(X ∗ _)) (bigSep_univ_eq_bigSepL [()] (by decide) (by decide) _)

theorem sems_eq :
    iprop(Pipeline.ownSems0 (Ix := Unit) (Name := ℕ) (U := UU) (Lvl := ℕ) (Val := Elt F) (τ := τ) osem c ∗ unscopedSems0 c)
      ⊢ (bigSep Finset.univ fun k : Slot => semVal (kcell (c, k)) 0 : sProp 𝕄) := by
  rw [ownSems0_eq, unscopedSems0_eq, slots_eq]
  exact BIClass.sep_symm

theorem core_alloc :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Slot => iprop(∃ κ : ℕ, cellInv ER (plan m ρ) κ (kcell (c, k)))) ∗ begun c ∗ rights c) := by
  have h : iprop((bigSep Finset.univ fun k : Slot => semVal (kcell (c, k)) 0) ∗ bigSep Finset.univ fun k : Slot => roundState ER (plan m ρ) (kcell (c, k)) 0)
      ⊢ (|={Set.univ}=> bigSep Finset.univ fun k : Slot => iprop(∃ κ : ℕ, cellInv ER (plan m ρ) κ (kcell (c, k))) : sProp 𝕄) := by
    rw [← bigSep_sep']
    exact (bigSep_mono fun k _ => (Rounds.body_intro ER (plan m ρ) (kcell (c, k))).trans inv_alloc).trans (bigSep_fupd _ _)
  unfold dealt
  iintro ⟨Hos, Hus, Hst, Hat, Htok⟩
  ihave Hv := (sems_eq (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-! ## Sharing out -/

/-- What device `c` keeps to itself. -/
def mine : sProp 𝕄 := iprop((bigSep Finset.univ fun k : Slot => atPos ER (kcell (c, k)) 0 ∅ 0) ∗ myRights c)

/-- What device `c` gets. -/
def got : sProp 𝕄 := iprop(∃ K, records m ρ K ∗ mine c)

theorem got_intro : iprop(records m ρ K ∗ mine c) ⊢ got (F := F) m ρ c := by
  unfold got
  iintro H
  iexists K
  iexact H

theorem for_all {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Slot => iprop(∃ κ : ℕ, cellInv ER (plan (F := F) m ρ) κ (kcell (c, k))))
        ∗ begun c ∗ rights c) : sProp 𝕄) ⊢ bigSep Finset.univ (got m ρ) := by
  unfold begun
  rw [bigSep_sep', bigSep_sep', ← bigSep_univ_prod (fun ck : Dev nD × Slot => iprop(∃ κ : ℕ, cellInv ER (plan (F := F) m ρ) κ (kcell ck))),
    bigSep_congr (s := Finset.univ) (fun (c : Dev nD) _ => bigSep_sep' Finset.univ (fun k : Slot => (atPos ER (kcell (c, k)) 0 ∅ 0 : sProp 𝕄)) (fun k => reached ER (kcell (c, k)) 0)),
    bigSep_sep', ← bigSep_univ_prod (fun ck : Dev nD × Slot => (reached ER (kcell ck) 0 : sProp 𝕄)), rights_around]
  iintro ⟨HI, ⟨Hat, HR⟩, Htok⟩
  ihave HK := (BI.bigSep_exists_pi Finset.univ (fun (ck : Dev nD × Slot) (κ : ℕ) => (cellInv ER (plan (F := F) m ρ) κ (kcell ck) : sProp 𝕄))) $$ HI
  icases HK with ⟨%K, HI⟩
  iapply (for_all (R := records (F := F) m ρ K) fun c => got_intro m ρ K c)
  unfold records mine
  rw [bigSep_sep', bigSep_sep']
  isplitl [HI HR]
  · isplitl [HI] <;> iassumption
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (got m ρ) :=
  ((bigSep_mono fun c _ => core_alloc m ρ c).trans (bigSep_fupd _ _)).trans (BI.fupd_mono (regroup m ρ))

/-! ## Beginning and end of a device's run -/

/-- The positions, sorted by kind of cell. -/
theorem positions :
    (bigSep Finset.univ fun k : Slot => atPos ER (kcell (c, k)) 0 ∅ 0 : sProp 𝕄)
      = iprop(atPos ER (barCell c) 0 ∅ 0 ∗ (atPos ER (sendCell c 0) 0 ∅ 0 ∗ posS c 0) ∗ (atPos ER (recvCell c c) 0 ∅ 0 ∗ posR c 0)) := by
  rw [slots_eq, bigSep_univ_at (fun n : Fin 32 => (atPos ER (kcell (c, .inr (.inl n))) 0 ∅ 0 : sProp 𝕄)) 0,
    bigSep_univ_at (fun s : Fin 32 => (atPos ER (kcell (c, .inr (.inr s))) 0 ∅ 0 : sProp 𝕄)) c]
  exact congrArg (fun X => iprop(_ ∗ X)) (congrArg₂ (fun X Y => iprop((_ ∗ X) ∗ (_ ∗ Y)))
    (others_eq (0 : Dev nD) fun n => (atPos ER (sendCell c n) 0 ∅ 0 : sProp 𝕄))
    (others_eq c fun s => (atPos ER (recvCell c s) 0 ∅ 0 : sProp 𝕄)))

theorem start_intro :
    iprop(Pipeline.unscopedRestP Pipeline.Prefetch.none cfg0.spec c (fun b => m ((c : Thread nD τ).loc b)) ∗ levAts L lv
        ∗ Pipeline.launchCred O₀ c ∗ prngReg c (ρ c) ∗ got (F := F) m ρ c)
      ⊢ |={Set.univ}=> iprop(start m ρ c ∗ emp) := by
  unfold got mine myRights start ghost known
  rw [positions]
  iintro ⟨-, Hlev, Hcr, -, ⟨%K, HR, Hat, Hbar, Hpay⟩⟩
  ihave Hc := (dues_intro (F := F) c) $$ Hcr
  imodintro
  isplitl
  · isplitr [Hc]
    · iexists K
      isplitl [HR Hlev]
      · isplitl [HR] <;> iassumption
      isplitl [Hbar]; · iexact Hbar
      isplitl [Hpay]; · iexact Hpay
      iexact Hat
    · iexact Hc
  · iempintro

theorem phi0_intro :
    iprop(start m ρ c ∗ Pipeline.prefHeld Pipeline.Prefetch.none c (fun _ => fullShare.right) (fun k => k.elim0) ∗ Pipeline.scopedRest cfg0.spec c)
      ⊢ (dats (F := F) m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit :
    (dats (F := F) m ρ 0 c).Φ (Fin.last cfg0.N) ⊢ iprop(unscopedSems0 c ∗ Pipeline.ownSems0 osem c ∗ Pipeline.scopedRest cfg0.spec c) := by
  rw [show (dats (F := F) m ρ 0 c).Φ (Fin.last cfg0.N) = Φ₁ m ρ c from rfl, scopedRest0_eq, ownSems0_eq, unscopedSems0_eq]
  unfold Φ₁ quiet
  iintro ⟨⟨Hb, Hs, Hr⟩, H0, H1, H2⟩
  isplitl [Hb]; · iexact Hb
  isplitl [Hs Hr]
  · isplitl [Hs] <;> iassumption
  isplitl [H0]; · iexists _; iexact H0
  isplitl [H1]; · iexists _; iexact H1
  iexists _; iexact H2

theorem waits : (levAts L lv : sProp 𝕄) ⊢ Pipeline.cellsWaits cfgs (dats (F := F) m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with the counters at zero every fair run on the thirty-two devices ends, with the arrays at what the
    grid's points made of them and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := got m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What is left of an operand after the run: the operand. -/
theorem finalA_in (w : Fin cfg0.W) (h : (cfg0.win w).isOut = false) : finalA m ρ c w = (dats m ρ 0 c).A w :=
  (dats (F := F) m ρ 0 c).arrAt_in w h _

end Cert.KernelIdeal.Exchange

end
-- ==== Proof.Ends.lean ====
/-
The run read: the result holds what the last point left in its buffer, the operands are as they were.
-/
module

public import proofs.«01_k».proof.Proof.Launch

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Slot → ℕ) (c : Dev nD)

/-- The one block of the result is the whole of it. -/
theorem whole_block : (fun a => win0_4.index t0_7 a * main_v1.ty.shape.size a) = fun _ => 0 :=
  funext fun a => by fin_cases a <;> decide +kernel

/-- Only the last point writes back, and it writes what has been summed. -/
theorem written (t : Fin cfg0.N) (hf : (cfg0.win 4).flush t = true) :
    (dats m ρ 0 c).flushed 4 t = ((cfg0.win 4).blk t).view.read (Elt F) (acc m ρ c 7) := by
  have h7 : t.val = 7 := by
    have h := (flush0_4 t).mp hf
    have : t.val < 8 := t.isLt
    omega
  obtain rfl : t = t0_7 := Fin.ext h7
  exact (Memref.read_access_unit_zero (Elt F) main_v1 whole_block (fun a => by rw [congrFun whole_block a]; simp) (acc m ρ c 7)).symm

theorem finalA_out : finalA m ρ c 4 = acc m ρ c 7 :=
  (dats m ρ 0 c).arrAt_eq_of_cover 4 (acc m ρ c 7) (written m ρ c) fun i =>
    ⟨t0_7, (flush0_4 t0_7).mpr rfl, by
      show i ∈ ((View.whole main_v1).slice (win0_4.rect t0_7)).set
      rw [View.set_slice_whole, Rect.mem_set_unit]
      intro a
      have e : win0_4.index t0_7 a * win0_4.size a = 0 ∧ win0_4.xsize (grid0.coords t0_7) a = main_v1.ty.shape.size a := by
        revert a; decide +kernel
      have hi : (i a : ℕ) < main_v1.ty.shape.size a := (i a).isLt
      show win0_4.index t0_7 a * win0_4.size a ≤ (i a : ℕ)
        ∧ (i a : ℕ) < win0_4.index t0_7 a * win0_4.size a + win0_4.xsize (grid0.coords t0_7) a
      rw [e.1, e.2]
      omega⟩

/-- Every fair run ends; the result is the sum of the eight products, the operands are unchanged, every counter is zero. -/
theorem ends : θ_run defs (onTc (τ := τ) (main (F := F))) ⟨m, fun _ => 0, ρ⟩ (fun r =>
    (∀ c : Dev nD, r.2.mem ((c : Thread nD τ).loc main_v1) = acc m ρ c 7
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun _ h => ⟨fun c => ⟨(h.1 c 4).trans (finalA_out m ρ c), (h.1 c 0).trans (finalA_in m ρ c 0 rfl),
    (h.1 c 1).trans (finalA_in m ρ c 1 rfl), (h.1 c 2).trans (finalA_in m ρ c 2 rfl), (h.1 c 3).trans (finalA_in m ρ c 3 rfl)⟩, h.2⟩)
    (run_main m ρ)

end Cert.KernelIdeal.Exchange

end
-- ==== Proof.Value.lean ====
/-
The values. Eight products of 512 columns, each scaled and added up, are one product of 4096 columns, scaled once: for a
scale that is neither negative nor infinite, scaling a sum is scaling its parts. The rows a device has gathered are rows of
the whole first operand, so its result is its rows of the reference's.
-/
module

public import proofs.«01_k».proof.Proof.Ends
public import proofs.«01_k».proof.Proof.Gen.ReferenceIdeal.Value
public import Idealize.ShloMosaic.Lib.MatmulPlain
public import Idealize.ShloMosaic.Lib.Layout
public import Idealize.ShloMosaic.Lib.ValueIdx

@[expose] public section

noncomputable section

namespace Cert.KernelIdeal.Exchange

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The product of two numbers. -/
abbrev times (x y : EReal) : EReal := x * y

/-- A number below 4096, as an index. -/
def col (t : ℕ) : Fin 4096 := ⟨t % 4096, Nat.mod_lt _ (by decide)⟩

/-- The `t`-th of the products that make up entry `(r, q)` of device `c`'s result. -/
def term (r : Fin 128) (q : Fin 8192) (t : ℕ) : EReal :=
  times (xg m ρ c (ix2 (n0 := 128) (n1 := 4096) r (col t)))
    (m ((c : Thread nD τ).loc main_arg1) (ix2 (n0 := 4096) (n1 := 8192) (col t) q))

/-- The scale. -/
def scale : EReal :=
  times (m ((c : Thread nD τ).loc main_arg2) (Shape.Idx.first (numel1_S1.symm ▸ Nat.one_pos)))
    (m ((c : Thread nD τ).loc main_arg3) (Shape.Idx.first (numel1_S1.symm ▸ Nat.one_pos)))

theorem coord_pt {n : ℕ} (h : n < 8) : ((grid0.coords (pt n)) 0).val = n := by
  have : ∀ n : Fin 8, ((grid0.coords (pt n.val)) 0).val = n.val := by decide +kernel
  exact this ⟨n, h⟩

/-- The columns a point multiplies. -/
theorem chunk_at {n : ℕ} (h : n < 8) (X : S128x4096.Idx → Elt Ideal .f32) (r : Fin 128) (k : Fin 512) :
    chunk (grid0.coords (pt n)) X (ix2 (n0 := 128) (n1 := 512) r k) = X (ix2 (n0 := 128) (n1 := 4096) r (col (n * 512 + k.val))) := by
  refine congrArg X (funext fun a => Fin.ext ?_)
  have e := k0_off8_eq (grid0.coords (pt n))
  have hk := k.isLt
  match a with
  | ⟨0, _⟩ =>
    show k0_off8 (grid0.coords (pt n)) 0 + 1 * r.val = r.val
    rw [e]; show 0 + 1 * r.val = r.val; omega
  | ⟨1, _⟩ =>
    show k0_off8 (grid0.coords (pt n)) 1 + 1 * k.val = (n * 512 + k.val) % 4096
    rw [e]; show 512 * ((grid0.coords (pt n)) 0).val + 1 * k.val = _
    rw [coord_pt h]; omega

/-- The rows it multiplies them with. -/
theorem wb_at {n : ℕ} (h : n < 8) (k : Fin 512) (q : Fin 8192) :
    wb m ρ c (pt n) (ix2 (n0 := 512) (n1 := 8192) k q)
      = m ((c : Thread nD τ).loc main_arg1) (ix2 (n0 := 4096) (n1 := 8192) (col (n * 512 + k.val)) q) := by
  refine congrArg (m ((c : Thread nD τ).loc main_arg1)) (funext fun a => Fin.ext ?_)
  have e : ∀ n : Fin 8, win0_1.index (pt n.val) (0 : Fin 2) = n.val ∧ win0_1.index (pt n.val) (1 : Fin 2) = 0 := by decide +kernel
  obtain ⟨e0, e1⟩ := e ⟨n, h⟩
  have hk := k.isLt
  match a with
  | ⟨0, _⟩ =>
    show win0_1.index (pt n) (0 : Fin 2) * 512 + 1 * k.val = (n * 512 + k.val) % 4096
    rw [e0]; show n * 512 + 1 * k.val = _; omega
  | ⟨1, _⟩ =>
    show win0_1.index (pt n) (1 : Fin 2) * 8192 + 1 * q.val = q.val
    rw [e1]; omega

theorem scales_at (n : ℕ) : times (at0 (sx m ρ c (pt n))) (at0 (sy m ρ c (pt n))) = scale m c := by
  have e : ∀ t : Fin cfg0.N, win0_2.index t (0 : Fin 1) = 0 ∧ win0_3.index t (0 : Fin 1) = 0 := by decide +kernel
  obtain ⟨e2, e3⟩ := e (pt n)
  refine congrArg₂ times ?_ ?_
  · refine congrArg (m ((c : Thread nD τ).loc main_arg2)) (funext fun a => Fin.ext ?_)
    match a with
    | ⟨0, _⟩ => show win0_2.index (pt n) (0 : Fin 1) * 1 + 1 * 0 = 0; rw [e2]
  · refine congrArg (m ((c : Thread nD τ).loc main_arg3)) (funext fun a => Fin.ext ?_)
    match a with
    | ⟨0, _⟩ => show win0_3.index (pt n) (0 : Fin 1) * 1 + 1 * 0 = 0; rw [e3]

theorem dot_plain : dot_S128x512_S512x8192_S128x8192_1_0_0_1_n_n = DotDims.plain 128 512 8192 := rfl

/-- One point's scaled product. -/
theorem product_at {n : ℕ} (h : n < 8) (r : Fin 128) (q : Fin 8192) :
    k0_pay2 (chunk (grid0.coords (pt n)) (wide m ρ c)) (wb m ρ c (pt n)) (at0 (sx m ρ c (pt n))) (at0 (sy m ρ c (pt n)))
        (ix2 (n0 := 128) (n1 := 8192) r q)
      = times (∑ k ∈ Finset.range 512, term m ρ c r q (n * 512 + k)) (scale m c) := by
  unfold k0_pay2
  simp only [shapeCast_self, matmul]
  refine (mulf_apply _ _ _).trans (congrArg₂ times ?_ (scales_at m ρ c n))
  rw [dot_plain, Ideal.matmul_plain_apply, constant_apply, Ideal.ofBits_zero_f32, zero_add, Finset.sum_range]
  refine Finset.sum_congr rfl fun k _ => ?_
  rw [chunk_at h, wb_at m ρ c h]
  refine congrArg₂ times ?_ rfl
  unfold wide k0_pay1
  simp only [shapeCast_self]
  rfl

variable {c} in
/-- The running sum. -/
theorem acc_at (h0 : 0 ≤ scale m c) (h1 : scale m c ≠ ⊤) (r : Fin 128) (q : Fin 8192) : ∀ n, n < 8 →
    acc m ρ c n (ix2 (n0 := 128) (n1 := 8192) r q) = times (∑ p ∈ Finset.range (n + 1), ∑ k ∈ Finset.range 512, term m ρ c r q (p * 512 + k)) (scale m c)
  | 0, h => by
    rw [Finset.sum_range_one]
    exact product_at m ρ c h r q
  | n + 1, h => by
    unfold times
    rw [Finset.sum_range_succ, EReal.right_distrib_of_nonneg_of_ne_top h0 h1, show (_ : EReal) * scale m c = _ from (acc_at h0 h1 r q n (by omega)).symm,
      show (_ : EReal) * scale m c = _ from (product_at m ρ c h r q).symm]
    show k0_pay3 _ _ _ _ _ _ = _
    unfold k0_pay3
    simp only [shapeCast_self]
    exact addf_apply _ _ _

variable {c} in
/-- A device's result: one product, scaled. -/
theorem result_at (h0 : 0 ≤ scale m c) (h1 : scale m c ≠ ⊤) (r : Fin 128) (q : Fin 8192) :
    acc m ρ c 7 (ix2 (n0 := 128) (n1 := 8192) r q) = times (∑ t : Fin 4096, term m ρ c r q t.val) (scale m c) := by
  rw [acc_at m ρ h0 h1 r q 7 (by decide), ← Finset.sum_range (term m ρ c r q)]
  exact congrArg (fun x => times x (scale m c)) (sum_split (term m ρ c r q) 8).symm
where
  sum_split (f : ℕ → EReal) : ∀ n, ∑ t ∈ Finset.range (n * 512), f t = ∑ p ∈ Finset.range n, ∑ k ∈ Finset.range 512, f (p * 512 + k)
    | 0 => by simp
    | n + 1 => by rw [Nat.succ_mul, Finset.sum_range_add, sum_split f n, Finset.sum_range_succ (fun p => ∑ k ∈ Finset.range 512, f (p * 512 + k))]

/-! ## The reference -/

theorem ref_plain : Cert.ReferenceIdeal.dot_S4096x4096_S4096x8192_S4096x8192_1_0_0_1_n_n = DotDims.plain 4096 4096 8192 := rfl

/-- An entry of the reference's result. -/
theorem reference_at (A : FVec Ideal ⟨2, ![4096, 4096]⟩ .fp8e4m3) (W : FVec Ideal ⟨2, ![4096, 8192]⟩ .fp8e4m3)
    (a b : FVec Ideal S1 .f32) (r : Fin 4096) (q : Fin 8192) :
    Cert.ReferenceIdeal.Value.G4 (F := Ideal) A W a b (ix2 (n0 := 4096) (n1 := 8192) r q)
      = times (∑ t : Fin 4096, times (A (ix2 (n0 := 4096) (n1 := 4096) r t)) (W (ix2 (n0 := 4096) (n1 := 8192) t q)))
          (times (a (Shape.Idx.first (numel1_S1.symm ▸ Nat.one_pos))) (b (Shape.Idx.first (numel1_S1.symm ▸ Nat.one_pos)))) := by
  unfold Cert.ReferenceIdeal.Value.G4 Cert.ReferenceIdeal.Gen.k0_pay1
  simp only [matmul]
  refine (mulf_apply _ _ _).trans (congrArg₂ times ?_ ?_)
  · rw [ref_plain, Ideal.matmul_plain_apply, constant_apply, Ideal.ofBits_zero_f32, zero_add]
    rfl
  · have e (i : S1.Idx) : i = Shape.Idx.first (numel1_S1.symm ▸ Nat.one_pos) := by
      funext x
      apply Fin.ext
      have h1 : (i x).val < S1.size x := (i x).isLt
      have h2 : ((Shape.Idx.first (s := S1) (numel1_S1.symm ▸ Nat.one_pos)) x).val < S1.size x := Fin.isLt _
      have h3 : S1.size x = 1 := (by decide : ∀ y : Fin S1.rank, S1.size y = 1) x
      omega
    exact congrArg (mulf a b) (e _)

/-! ## The rows of the whole first operand -/

/-- What device `c` has gathered is its rows of the whole. -/
theorem gathered (A : (⟨2, ![4096, 4096]⟩ : Shape).Idx → Elt Ideal .fp8e4m3)
    (hA : ∀ d : Dev nD, m ((d : Thread nD τ).loc main_arg0) = Layout.block ⟨2, ![4096, 128]⟩ ⟨2, ![4096, 4096]⟩ 1 32 d A)
    (r : Fin 128) (t : Fin 4096) (R : Fin 4096) (hR : R.val = c.val * 128 + r.val) :
    xg m ρ c (ix2 (n0 := 128) (n1 := 4096) r t) = A (ix2 (n0 := 4096) (n1 := 4096) R t) := by
  have ht := t.isLt
  unfold xg xs
  rw [View.read_apply]
  show m (((_ : Dev nD) : Thread nD τ).loc main_arg0) _ = _
  rw [hA, Layout.block_apply]
  refine congrArg A (funext fun a => Fin.ext ?_)
  have e : win0_0.index t0_0 (0 : Fin 2) = 0 ∧ win0_0.index t0_0 (1 : Fin 2) = 0 := by decide +kernel
  match a with
  | ⟨0, _⟩ =>
    show win0_0.index t0_0 (0 : Fin 2) * 4096 + 1 * (128 * c.val + r.val) = R.val
    rw [e.1, hR]; omega
  | ⟨1, _⟩ =>
    show (t.val / 128) * 128 + (win0_0.index t0_0 (1 : Fin 2) * 128 + 1 * (t.val % 128)) = t.val
    rw [e.2]; omega

/-- A device's result is its rows of the reference's. -/
theorem result_eq (A : (⟨2, ![4096, 4096]⟩ : Shape).Idx → Elt Ideal .fp8e4m3)
    (hA : ∀ d : Dev nD, m ((d : Thread nD τ).loc main_arg0) = Layout.block ⟨2, ![4096, 128]⟩ ⟨2, ![4096, 4096]⟩ 1 32 d A)
    (h0 : 0 ≤ scale m c) (h1 : scale m c ≠ ⊤) :
    acc m ρ c 7 = Layout.block ⟨2, ![128, 8192]⟩ ⟨2, ![4096, 8192]⟩ 0 32 c
      (Cert.ReferenceIdeal.Value.G4 A (m ((c : Thread nD τ).loc main_arg1)) (m ((c : Thread nD τ).loc main_arg2)) (m ((c : Thread nD τ).loc main_arg3))) := by
  funext i
  obtain ⟨r, q, rfl⟩ : ∃ (r : Fin 128) (q : Fin 8192), i = ix2 (n0 := 128) (n1 := 8192) r q := ⟨i 0, i 1, eq_ix2 i⟩
  have hc : c.val < 32 := c.isLt
  have hr := r.isLt
  rw [Layout.block_apply, result_at m ρ h0 h1]
  have e : (by decide : Layout.Tiles ⟨2, ![128, 8192]⟩ ⟨2, ![4096, 8192]⟩ 0 32).idx c (ix2 (n0 := 128) (n1 := 8192) r q)
      = ix2 (n0 := 4096) (n1 := 8192) ⟨c.val * 128 + r.val, by omega⟩ q := by
    funext a
    match a with
    | ⟨0, _⟩ => rfl
    | ⟨1, _⟩ => rfl
  rw [e, reference_at]
  refine congrArg (fun x => times x (scale m c)) (Finset.sum_congr rfl fun t _ => ?_)
  have et : col t.val = t := Fin.ext (Nat.mod_eq_of_lt t.isLt)
  unfold term
  rw [et, gathered m ρ c A hA r t ⟨c.val * 128 + r.val, by omega⟩ rfl]

end Cert.KernelIdeal.Exchange

end
-- ==== Proof.lean ====
/-
The certificate. The frames of the kernel and of its idealization are one text read in two namespaces; the idealization is
the kernel's own text; and what the devices end with are their rows of the reference's result.
-/
module

public import proofs.«01_k».proof.Proof.Gen.ReferenceIdeal.Value
public import proofs.«01_k».proof.Proof.Value
public import proofs.«01_k».proof.Proof.Machine.Ends
public import proofs.«01_k».proof.Defs

@[expose] public section

noncomputable section

namespace Cert.Proof

open Idealize.ShloMosaic Idealize.ShloMosaic.TcCoe Idealize.SL.Sem

theorem pre_kernel : Cert.Pre_scale_in_range_KernelIdeal.Facts where
  bcast_S_S1 := by decide
theorem pre_reference : Cert.Pre_scale_in_range_ReferenceIdeal.Facts where
  bcast_S_S1 := by decide

/-- Every run of the kernel ends, with its arguments unchanged and its semaphores at zero. -/
theorem kernel_frame : Cert.quiescent_Kernel (hKernel := Cert.Kernel.Gen.facts) := fun m g _ =>
  (θ_run _ _ _).mono (fun _ h => ⟨fun c => (h.1 c).2, h.2⟩) (Cert.Kernel.Exchange.ends m g)

/-- The same of the idealized kernel. -/
theorem ideal_frame : Cert.quiescent_KernelIdeal (hKernelIdeal := Cert.KernelIdeal.Gen.facts) := fun m g _ =>
  (θ_run _ _ _).mono (fun _ h => ⟨fun c => (h.1 c).2, h.2⟩) (Cert.KernelIdeal.Exchange.ends m g)

/-- The same of the reference. -/
theorem reference_frame : Cert.quiescent_ReferenceIdeal (hReferenceIdeal := Cert.ReferenceIdeal.Gen.facts) := fun m g _ =>
  Cert.ReferenceIdeal.Gen.frame m g

/-- What the precondition says: the scale is neither negative nor infinite. -/
theorem scale_ok (m : (ℓ : Loc Cert.KernelIdeal.nD Cert.KernelIdeal.τ Cert.KernelIdeal.sig) → Buf (Elt Ideal) ℓ)
    (h : Cert.Pre_KernelIdeal_scale_in_range_KernelIdeal (hPre_scale_in_range_KernelIdeal := pre_kernel) m) (c : Dev Cert.KernelIdeal.nD) :
    0 ≤ Cert.KernelIdeal.Exchange.scale m c ∧ Cert.KernelIdeal.Exchange.scale m c ≠ ⊤ := by
  have hi := congrFun (h c) (Shape.Idx.first (Cert.KernelIdeal.Gen.numel1_S1.symm ▸ Nat.one_pos))
  have hz : Ideal.ofBits .f32 0x00000000#32 = 0 := by simp [Ideal.ofBits, Ideal.ieee]
  have ht : Ideal.ofBits .f32 0x7F800000#32 = ⊤ := by simp [Ideal.ofBits, Ideal.ieee]
  have e : Ideal.cmp .oge (Cert.KernelIdeal.Exchange.scale m c) (Ideal.ofBits .f32 0x00000000#32)
      &&& Ideal.cmp .olt (Cert.KernelIdeal.Exchange.scale m c) (Ideal.ofBits .f32 0x7F800000#32) = 1#1 := hi
  rw [hz, ht] at e
  unfold Ideal.cmp at e
  by_cases h0 : (0 : EReal) ≤ Cert.KernelIdeal.Exchange.scale m c
  · by_cases h1 : Cert.KernelIdeal.Exchange.scale m c < ⊤
    · exact ⟨h0, h1.ne⟩
    · simp [h0, h1] at e
  · simp [h0] at e

/-- What the devices end with are their rows of the reference's result. -/
theorem same_result : Cert.algebraic_KernelIdeal_ReferenceIdeal_pre_scale_in_range_KernelIdeal (hKernelIdeal := Cert.KernelIdeal.Gen.facts)
    (hReferenceIdeal := Cert.ReferenceIdeal.Gen.facts) (hPre_scale_in_range_KernelIdeal := pre_kernel) := fun m g m' g' hp hm => by
  refine ⟨_, (θ_run _ _ _).mono (fun _ h c => ⟨(h.1 c).1.trans ?_, (h.1 c).2⟩) (Cert.KernelIdeal.Exchange.ends m g),
    (θ_run _ _ _).mono (fun _ h => h 0) (Cert.ReferenceIdeal.Value.run m' g')⟩
  have hs := scale_ok m hp c
  rw [Cert.KernelIdeal.Exchange.result_eq m g c _ (fun d => (hm d).1) hs.1 hs.2, (hm c).2.1, (hm c).2.2.1, (hm c).2.2.2]

/-- All claims together. -/
theorem claim : Cert.Claim :=
  ⟨Cert.Kernel.Gen.facts, Cert.KernelIdeal.Gen.facts, Cert.ReferenceIdeal.Gen.facts, pre_kernel, pre_reference,
    kernel_frame, ideal_frame, fun m g _ => ideal_frame m g trivial,
    reference_frame, fun m g _ => reference_frame m g trivial,
    trivial, same_result⟩

end Cert.Proof

end
